-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x1280 : Shape := ⟨3, ![16, 4096, 1280]⟩
abbrev S65536x1280 : Shape := ⟨2, ![65536, 1280]⟩
abbrev S256x256 : Shape := ⟨2, ![256, 256]⟩
abbrev S_ : Shape := ⟨0, ![]⟩
abbrev S65536x640 : Shape := ⟨2, ![65536, 640]⟩
abbrev S16x80x4096 : Shape := ⟨3, ![16, 80, 4096]⟩
abbrev S1x1 : Shape := ⟨2, ![1, 1]⟩
abbrev S34x512x1280 : Shape := ⟨3, ![34, 512, 1280]⟩
abbrev S128x80x512 : Shape := ⟨3, ![128, 80, 512]⟩
abbrev S16x256 : Shape := ⟨2, ![16, 256]⟩
abbrev S80x512 : Shape := ⟨2, ![80, 512]⟩
abbrev S3x512x640 : Shape := ⟨3, ![3, 512, 640]⟩
abbrev S3x80x512 : Shape := ⟨3, ![3, 80, 512]⟩
abbrev S34 : Shape := ⟨1, ![34]⟩
abbrev S3 : Shape := ⟨1, ![3]⟩
abbrev S1 : Shape := ⟨1, ![1]⟩
abbrev S1x512x1280 : Shape := ⟨3, ![1, 512, 1280]⟩
abbrev S512x1280 : Shape := ⟨2, ![512, 1280]⟩
abbrev S1x256x256 : Shape := ⟨3, ![1, 256, 256]⟩
abbrev S16x16x256 : Shape := ⟨3, ![16, 16, 256]⟩
abbrev S1x16x256 : Shape := ⟨3, ![1, 16, 256]⟩
abbrev S1x1x1 : Shape := ⟨3, ![1, 1, 1]⟩
abbrev S512x640 : Shape := ⟨2, ![512, 640]⟩
abbrev S1x512x640 : Shape := ⟨3, ![1, 512, 640]⟩
abbrev S1x80x512 : Shape := ⟨3, ![1, 80, 512]⟩
abbrev S1x256 : Shape := ⟨2, ![1, 256]⟩
abbrev S32x8x256 : Shape := ⟨3, ![32, 8, 256]⟩
abbrev S32x256 : Shape := ⟨2, ![32, 256]⟩
abbrev S128x256 : Shape := ⟨2, ![128, 256]⟩
abbrev S256x128 : Shape := ⟨2, ![256, 128]⟩
abbrev S1x256x128 : Shape := ⟨3, ![1, 256, 128]⟩

abbrev nBuf : Space → Nat
  | .hbm => 23
  | .vmem => 8
  | .smem => 1
  | _ => 0

abbrev bufTy : (tb : Table) → Fin (tcTables nBuf tb) → BufTy
  | .hbm, ⟨0, _⟩ => ⟨S16x4096x1280, .bf16⟩
  | .hbm, ⟨1, _⟩ => ⟨S65536x1280, .bf16⟩
  | .hbm, ⟨2, _⟩ => ⟨S256x256, .i32⟩
  | .hbm, ⟨3, _⟩ => ⟨S256x256, .i32⟩
  | .hbm, ⟨4, _⟩ => ⟨S_, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i1⟩
  | .hbm, ⟨15, _⟩ => ⟨S256x256, .bf16⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S256x256, .bf16⟩
  | .hbm, ⟨20, _⟩ => ⟨S65536x640, .i8⟩
  | .hbm, ⟨21, _⟩ => ⟨S16x80x4096, .fp8e4m3⟩
  | .hbm, ⟨22, _⟩ => ⟨S1x1, .f32⟩
  | .local _ .vmem, ⟨0, _⟩ => ⟨S256x256, .bf16⟩
  | .local _ .vmem, ⟨1, _⟩ => ⟨S256x256, .bf16⟩
  | .local _ .vmem, ⟨2, _⟩ => ⟨S34x512x1280, .bf16⟩
  | .local _ .vmem, ⟨3, _⟩ => ⟨S128x80x512, .bf16⟩
  | .local _ .vmem, ⟨4, _⟩ => ⟨S16x256, .f32⟩
  | .local _ .vmem, ⟨5, _⟩ => ⟨S80x512, .f32⟩
  | .local _ .vmem, ⟨6, _⟩ => ⟨S3x512x640, .i8⟩
  | .local _ .vmem, ⟨7, _⟩ => ⟨S3x80x512, .fp8e4m3⟩
  | .local _ .smem, ⟨0, _⟩ => ⟨S1x1, .f32⟩
  | _, _ => ⟨S16x4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16_0 : Ref sig .tc := ⟨.hbm, 20, rfl⟩
abbrev main_v16_1 : Ref sig .tc := ⟨.hbm, 21, rfl⟩
abbrev main_v16_2 : Ref sig .tc := ⟨.hbm, 22, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_off1 (k0_t1 : Fin k0_t1_loop.trips) : Fin 1 → Nat :=
  let c0_i32_22 : BitVec 32 := 0#32
  let c0_i32 : BitVec 32 := 0#32
  let c1_i32 : BitVec 32 := 1#32
  let arg15 : BitVec 32 := Scf.iv c0_i32 c1_i32 k0_t1
  let c1_i32_21 : BitVec 32 := 1#32
  let v26 : BitVec 32 := Scalar.muli arg15 c1_i32_21
  let v27 : BitVec 32 := Scalar.addi c0_i32_22 v26
  ![v27.toNat]
def k0_off2 (k0_t1 : Fin k0_t1_loop.trips) : Fin 3 → Nat :=
  let c0_i32_22 : BitVec 32 := 0#32
  let c0_i32 : BitVec 32 := 0#32
  let c1_i32 : BitVec 32 := 1#32
  let arg15 : BitVec 32 := Scf.iv c0_i32 c1_i32 k0_t1
  let c1_i32_21 : BitVec 32 := 1#32
  let v26 : BitVec 32 := Scalar.muli arg15 c1_i32_21
  let v27 : BitVec 32 := Scalar.addi c0_i32_22 v26
  let c0_i32_23 : BitVec 32 := 0#32
  let c0_i32_24 : BitVec 32 := 0#32
  ![v27.toNat, 0, 0]
def k0_off3 (k0_t1 : Fin k0_t1_loop.trips) : Fin 2 → Nat :=
  let c0_i32_22 : BitVec 32 := 0#32
  let c0_i32 : BitVec 32 := 0#32
  let c1_i32 : BitVec 32 := 1#32
  let arg15 : BitVec 32 := Scf.iv c0_i32 c1_i32 k0_t1
  let c1_i32_21 : BitVec 32 := 1#32
  let v26 : BitVec 32 := Scalar.muli arg15 c1_i32_21
  let v27 : BitVec 32 := Scalar.addi c0_i32_22 v26
  let c512_i32 : BitVec 32 := 512#32
  let v28 : BitVec 32 := Scalar.muli v27 c512_i32
  let c0_i32_25 : BitVec 32 := 0#32
  ![v28.toNat, 0]
@[reducible] def k0_t2_loop : Scf.Loop 32 :=
  let c0_i32_2 : BitVec 32 := 0#32
  let c128_i32 : BitVec 32 := 128#32
  let v5 : BitVec 32 := Scalar.addi c0_i32_2 c128_i32
  let c1_i32_3 : BitVec 32 := 1#32
  ⟨c0_i32_2, v5, c1_i32_3⟩
def k0_cond1 (k0_t2 : Fin k0_t2_loop.trips) : BitVec 1 :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let c8_i32_23 : BitVec 32 := 8#32
  let v29 : BitVec 32 := Scalar.addi v27 c8_i32_23
  let c128_i32_24 : BitVec 32 := 128#32
  let v30 : BitVec 1 := Scalar.cmpi .slt v29 c128_i32_24
  let v31 : BitVec 32 := Scalar.extui v30
  let c0_i32_25 : BitVec 32 := 0#32
  let v32 : BitVec 1 := Scalar.cmpi .ne v31 c0_i32_25
  v32

def k0_off4 (k0_t2 : Fin k0_t2_loop.trips) : Fin 1 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let c8_i32_106 : BitVec 32 := 8#32
  let v194 : BitVec 32 := Scalar.addi v27 c8_i32_106
  let c34_i32_107 : BitVec 32 := 34#32
  let v195 : BitVec 32 := Scalar.remsi v194 c34_i32_107
  ![v195.toNat]
def k0_off5 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let c8_i32_106 : BitVec 32 := 8#32
  let v194 : BitVec 32 := Scalar.addi v27 c8_i32_106
  let c34_i32_107 : BitVec 32 := 34#32
  let v195 : BitVec 32 := Scalar.remsi v194 c34_i32_107
  let c0_i32_109 : BitVec 32 := 0#32
  let c0_i32_110 : BitVec 32 := 0#32
  ![v195.toNat, 0, 0]
def k0_off6 (k0_t2 : Fin k0_t2_loop.trips) : Fin 2 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let c8_i32_105 : BitVec 32 := 8#32
  let v193 : BitVec 32 := Scalar.addi v27 c8_i32_105
  let c512_i32_108 : BitVec 32 := 512#32
  let v196 : BitVec 32 := Scalar.muli v193 c512_i32_108
  let c0_i32_111 : BitVec 32 := 0#32
  ![v196.toNat, 0]
def k0_off7 (k0_t2 : Fin k0_t2_loop.trips) : Fin 1 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let c34_i32 : BitVec 32 := 34#32
  let v28 : BitVec 32 := Scalar.remsi v27 c34_i32
  ![v28.toNat]
def k0_off8 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let c34_i32 : BitVec 32 := 34#32
  let v28 : BitVec 32 := Scalar.remsi v27 c34_i32
  let c0_i32_26 : BitVec 32 := 0#32
  let c0_i32_27 : BitVec 32 := 0#32
  ![v28.toNat, 0, 0]
def k0_off9 (k0_t2 : Fin k0_t2_loop.trips) : Fin 2 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let c512_i32 : BitVec 32 := 512#32
  let v33 : BitVec 32 := Scalar.muli v27 c512_i32
  let c0_i32_28 : BitVec 32 := 0#32
  ![v33.toNat, 0]
def k0_off10 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let c34_i32 : BitVec 32 := 34#32
  let v28 : BitVec 32 := Scalar.remsi v27 c34_i32
  let v40 : Index := Scalar.indexCast v28
  let c0_31 : Index := 0#32
  let c0_32 : Index := 0#32
  ![v40.toNat, 0, 0]
def k0_off11 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let v50 : Index := Scalar.indexCast v27
  let c0_37 : Index := 0#32
  let c0_38 : Index := 0#32
  ![v50.toNat, 0, 0]
def k0_off12 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let c34_i32 : BitVec 32 := 34#32
  let v28 : BitVec 32 := Scalar.remsi v27 c34_i32
  let v55 : Index := Scalar.indexCast v28
  let c0_39 : Index := 0#32
  let c256 : Index := 256#32
  ![v55.toNat, 0, 256]
def k0_off13 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let v65 : Index := Scalar.indexCast v27
  let c16 : Index := 16#32
  let c0_44 : Index := 0#32
  ![v65.toNat, 16, 0]
def k0_off14 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let c34_i32 : BitVec 32 := 34#32
  let v28 : BitVec 32 := Scalar.remsi v27 c34_i32
  let v70 : Index := Scalar.indexCast v28
  let c0_45 : Index := 0#32
  let c512 : Index := 512#32
  ![v70.toNat, 0, 512]
def k0_off15 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let v80 : Index := Scalar.indexCast v27
  let c32 : Index := 32#32
  let c0_50 : Index := 0#32
  ![v80.toNat, 32, 0]
def k0_off16 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let c34_i32 : BitVec 32 := 34#32
  let v28 : BitVec 32 := Scalar.remsi v27 c34_i32
  let v85 : Index := Scalar.indexCast v28
  let c0_51 : Index := 0#32
  let c768 : Index := 768#32
  ![v85.toNat, 0, 768]
def k0_off17 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let v95 : Index := Scalar.indexCast v27
  let c48 : Index := 48#32
  let c0_56 : Index := 0#32
  ![v95.toNat, 48, 0]
def k0_off18 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let c34_i32 : BitVec 32 := 34#32
  let v28 : BitVec 32 := Scalar.remsi v27 c34_i32
  let v100 : Index := Scalar.indexCast v28
  let c0_57 : Index := 0#32
  let c1024 : Index := 1024#32
  ![v100.toNat, 0, 1024]
def k0_off19 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let v110 : Index := Scalar.indexCast v27
  let c64 : Index := 64#32
  let c0_62 : Index := 0#32
  ![v110.toNat, 64, 0]
def k0_off20 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let c34_i32 : BitVec 32 := 34#32
  let v28 : BitVec 32 := Scalar.remsi v27 c34_i32
  let v115 : Index := Scalar.indexCast v28
  let c256_63 : Index := 256#32
  let c0_64 : Index := 0#32
  ![v115.toNat, 256, 0]
def k0_off21 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let v125 : Index := Scalar.indexCast v27
  let c0_69 : Index := 0#32
  let c256_70 : Index := 256#32
  ![v125.toNat, 0, 256]
def k0_off22 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let c34_i32 : BitVec 32 := 34#32
  let v28 : BitVec 32 := Scalar.remsi v27 c34_i32
  let v130 : Index := Scalar.indexCast v28
  let c256_71 : Index := 256#32
  let c256_72 : Index := 256#32
  ![v130.toNat, 256, 256]
def k0_off23 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let v140 : Index := Scalar.indexCast v27
  let c16_77 : Index := 16#32
  let c256_78 : Index := 256#32
  ![v140.toNat, 16, 256]
def k0_off24 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let c34_i32 : BitVec 32 := 34#32
  let v28 : BitVec 32 := Scalar.remsi v27 c34_i32
  let v145 : Index := Scalar.indexCast v28
  let c256_79 : Index := 256#32
  let c512_80 : Index := 512#32
  ![v145.toNat, 256, 512]
def k0_off25 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let v155 : Index := Scalar.indexCast v27
  let c32_85 : Index := 32#32
  let c256_86 : Index := 256#32
  ![v155.toNat, 32, 256]
def k0_off26 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let c34_i32 : BitVec 32 := 34#32
  let v28 : BitVec 32 := Scalar.remsi v27 c34_i32
  let v160 : Index := Scalar.indexCast v28
  let c256_87 : Index := 256#32
  let c768_88 : Index := 768#32
  ![v160.toNat, 256, 768]
def k0_off27 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let v170 : Index := Scalar.indexCast v27
  let c48_93 : Index := 48#32
  let c256_94 : Index := 256#32
  ![v170.toNat, 48, 256]
def k0_off28 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let c34_i32 : BitVec 32 := 34#32
  let v28 : BitVec 32 := Scalar.remsi v27 c34_i32
  let v175 : Index := Scalar.indexCast v28
  let c256_95 : Index := 256#32
  let c1024_96 : Index := 1024#32
  ![v175.toNat, 256, 1024]
def k0_off29 (k0_t2 : Fin k0_t2_loop.trips) : Fin 3 → Nat :=
  let c0_i32_22 : BitVec 32 := 0#32
  let c0_i32_2 : BitVec 32 := 0#32
  let c1_i32_3 : BitVec 32 := 1#32
  let arg15 : BitVec 32 := Scf.iv c0_i32_2 c1_i32_3 k0_t2
  let c1_i32_21 : BitVec 32 := 1#32
  let v26 : BitVec 32 := Scalar.muli arg15 c1_i32_21
  let v27 : BitVec 32 := Scalar.addi c0_i32_22 v26
  let v185 : Index := Scalar.indexCast v27
  let c64_101 : Index := 64#32
  let c256_102 : Index := 256#32
  ![v185.toNat, 64, 256]
@[reducible] def k0_t3_loop : Scf.Loop 32 :=
  let c0_i32_14 : BitVec 32 := 0#32
  let c128_i32_15 : BitVec 32 := 128#32
  let v24 : BitVec 32 := Scalar.addi c0_i32_14 c128_i32_15
  let c1_i32_16 : BitVec 32 := 1#32
  ⟨c0_i32_14, v24, c1_i32_16⟩
def k0_cond2 (k0_t3 : Fin k0_t3_loop.trips) : BitVec 1 :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c34_i32_27 : BitVec 32 := 34#32
  let v35 : BitVec 1 := Scalar.cmpi .sge v27 c34_i32_27
  let v36 : BitVec 32 := Scalar.extui v35
  let c0_i32_28 : BitVec 32 := 0#32
  let v37 : BitVec 1 := Scalar.cmpi .ne v36 c0_i32_28
  v37

def k0_off30 (k0_t3 : Fin k0_t3_loop.trips) : Fin 1 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c128_i32_23 : BitVec 32 := 128#32
  let v28 : BitVec 32 := Scalar.addi v27 c128_i32_23
  let c34_i32 : BitVec 32 := 34#32
  let v29 : BitVec 32 := Scalar.remsi v28 c34_i32
  ![v29.toNat]
def k0_off31 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c128_i32_23 : BitVec 32 := 128#32
  let v28 : BitVec 32 := Scalar.addi v27 c128_i32_23
  let c34_i32 : BitVec 32 := 34#32
  let v29 : BitVec 32 := Scalar.remsi v28 c34_i32
  let c0_i32_516 : BitVec 32 := 0#32
  let c0_i32_517 : BitVec 32 := 0#32
  ![v29.toNat, 0, 0]
def k0_off32 (k0_t3 : Fin k0_t3_loop.trips) : Fin 2 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c34_i32_24 : BitVec 32 := 34#32
  let v30 : BitVec 1 := Scalar.cmpi .slt v27 c34_i32_24
  let c94_i32 : BitVec 32 := 94#32
  let v31 : BitVec 32 := Scalar.addi c94_i32 v27
  let c34_i32_25 : BitVec 32 := 34#32
  let v32 : BitVec 32 := Scalar.subi v27 c34_i32_25
  let v33 : BitVec 32 := Scalar.select v30 v31 v32
  let c512_i32_515 : BitVec 32 := 512#32
  let v1503 : BitVec 32 := Scalar.muli v33 c512_i32_515
  let c0_i32_518 : BitVec 32 := 0#32
  ![v1503.toNat, 0]
def k0_cond3 (k0_t3 : Fin k0_t3_loop.trips) : BitVec 1 :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_29 : BitVec 32 := 3#32
  let v38 : BitVec 1 := Scalar.cmpi .sge v27 c3_i32_29
  let v39 : BitVec 32 := Scalar.extui v38
  let c0_i32_30 : BitVec 32 := 0#32
  let v40 : BitVec 1 := Scalar.cmpi .ne v39 c0_i32_30
  v40

def k0_off33 (k0_t3 : Fin k0_t3_loop.trips) : Fin 1 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_26 : BitVec 32 := 3#32
  let v34 : BitVec 32 := Scalar.remsi v27 c3_i32_26
  ![v34.toNat]
def k0_off34 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_26 : BitVec 32 := 3#32
  let v34 : BitVec 32 := Scalar.remsi v27 c3_i32_26
  let c0_i32_522 : BitVec 32 := 0#32
  let c0_i32_523 : BitVec 32 := 0#32
  ![v34.toNat, 0, 0]
def k0_off35 : Fin 3 → Nat :=
  let c0_i32_518 : BitVec 32 := 0#32
  let c8_i32_519 : BitVec 32 := 8#32
  let v1505 : BitVec 32 := Scalar.divsi c0_i32_518 c8_i32_519
  let c0_i32_524 : BitVec 32 := 0#32
  let c0_i32_515 : BitVec 32 := 0#32
  let c8_i32_516 : BitVec 32 := 8#32
  let v1503 : BitVec 32 := Scalar.remsi c0_i32_515 c8_i32_516
  let c512_i32_517 : BitVec 32 := 512#32
  let v1504 : BitVec 32 := Scalar.muli v1503 c512_i32_517
  ![v1505.toNat, 0, v1504.toNat]
def k0_off36 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_26 : BitVec 32 := 3#32
  let v34 : BitVec 32 := Scalar.remsi v27 c3_i32_26
  let c0_i32_525 : BitVec 32 := 0#32
  let c0_i32_526 : BitVec 32 := 0#32
  ![v34.toNat, 0, 0]
def k0_off37 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c34_i32_24 : BitVec 32 := 34#32
  let v30 : BitVec 1 := Scalar.cmpi .slt v27 c34_i32_24
  let c94_i32 : BitVec 32 := 94#32
  let v31 : BitVec 32 := Scalar.addi c94_i32 v27
  let c34_i32_25 : BitVec 32 := 34#32
  let v32 : BitVec 32 := Scalar.subi v27 c34_i32_25
  let v33 : BitVec 32 := Scalar.select v30 v31 v32
  let v41 : Index := Scalar.indexCast v33
  let c0_31 : Index := 0#32
  let c0_32 : Index := 0#32
  ![v41.toNat, 0, 0]
def k0_off38 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_26 : BitVec 32 := 3#32
  let v34 : BitVec 32 := Scalar.remsi v27 c3_i32_26
  let v49 : Index := Scalar.indexCast v34
  let c0_34 : Index := 0#32
  let c0_35 : Index := 0#32
  ![v49.toNat, 0, 0]
def k0_off39 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c128_i32_23 : BitVec 32 := 128#32
  let v28 : BitVec 32 := Scalar.addi v27 c128_i32_23
  let c34_i32 : BitVec 32 := 34#32
  let v29 : BitVec 32 := Scalar.remsi v28 c34_i32
  let v66 : Index := Scalar.indexCast v29
  let c0_43 : Index := 0#32
  let c0_44 : Index := 0#32
  ![v66.toNat, 0, 0]
def k0_off40 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_26 : BitVec 32 := 3#32
  let v34 : BitVec 32 := Scalar.remsi v27 c3_i32_26
  let v202 : Index := Scalar.indexCast v34
  let c0_76 : Index := 0#32
  let c0_77 : Index := 0#32
  ![v202.toNat, 0, 0]
def k0_off41 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c128_i32_23 : BitVec 32 := 128#32
  let v28 : BitVec 32 := Scalar.addi v27 c128_i32_23
  let c34_i32 : BitVec 32 := 34#32
  let v29 : BitVec 32 := Scalar.remsi v28 c34_i32
  let v208 : Index := Scalar.indexCast v29
  let c0_80 : Index := 0#32
  let c256 : Index := 256#32
  ![v208.toNat, 0, 256]
def k0_off42 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_26 : BitVec 32 := 3#32
  let v34 : BitVec 32 := Scalar.remsi v27 c3_i32_26
  let v344 : Index := Scalar.indexCast v34
  let c0_114 : Index := 0#32
  let c128 : Index := 128#32
  ![v344.toNat, 0, 128]
def k0_off43 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c128_i32_23 : BitVec 32 := 128#32
  let v28 : BitVec 32 := Scalar.addi v27 c128_i32_23
  let c34_i32 : BitVec 32 := 34#32
  let v29 : BitVec 32 := Scalar.remsi v28 c34_i32
  let v350 : Index := Scalar.indexCast v29
  let c0_117 : Index := 0#32
  let c512 : Index := 512#32
  ![v350.toNat, 0, 512]
def k0_off44 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_26 : BitVec 32 := 3#32
  let v34 : BitVec 32 := Scalar.remsi v27 c3_i32_26
  let v486 : Index := Scalar.indexCast v34
  let c0_151 : Index := 0#32
  let c256_152 : Index := 256#32
  ![v486.toNat, 0, 256]
def k0_off45 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c128_i32_23 : BitVec 32 := 128#32
  let v28 : BitVec 32 := Scalar.addi v27 c128_i32_23
  let c34_i32 : BitVec 32 := 34#32
  let v29 : BitVec 32 := Scalar.remsi v28 c34_i32
  let v492 : Index := Scalar.indexCast v29
  let c0_155 : Index := 0#32
  let c768 : Index := 768#32
  ![v492.toNat, 0, 768]
def k0_off46 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_26 : BitVec 32 := 3#32
  let v34 : BitVec 32 := Scalar.remsi v27 c3_i32_26
  let v628 : Index := Scalar.indexCast v34
  let c0_189 : Index := 0#32
  let c384 : Index := 384#32
  ![v628.toNat, 0, 384]
def k0_off47 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c128_i32_23 : BitVec 32 := 128#32
  let v28 : BitVec 32 := Scalar.addi v27 c128_i32_23
  let c34_i32 : BitVec 32 := 34#32
  let v29 : BitVec 32 := Scalar.remsi v28 c34_i32
  let v634 : Index := Scalar.indexCast v29
  let c0_192 : Index := 0#32
  let c1024 : Index := 1024#32
  ![v634.toNat, 0, 1024]
def k0_off48 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_26 : BitVec 32 := 3#32
  let v34 : BitVec 32 := Scalar.remsi v27 c3_i32_26
  let v770 : Index := Scalar.indexCast v34
  let c0_226 : Index := 0#32
  let c512_227 : Index := 512#32
  ![v770.toNat, 0, 512]
def k0_off49 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c128_i32_23 : BitVec 32 := 128#32
  let v28 : BitVec 32 := Scalar.addi v27 c128_i32_23
  let c34_i32 : BitVec 32 := 34#32
  let v29 : BitVec 32 := Scalar.remsi v28 c34_i32
  let v776 : Index := Scalar.indexCast v29
  let c256_230 : Index := 256#32
  let c0_231 : Index := 0#32
  ![v776.toNat, 256, 0]
def k0_off50 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_26 : BitVec 32 := 3#32
  let v34 : BitVec 32 := Scalar.remsi v27 c3_i32_26
  let v912 : Index := Scalar.indexCast v34
  let c256_281 : Index := 256#32
  let c0_282 : Index := 0#32
  ![v912.toNat, 256, 0]
def k0_off51 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c128_i32_23 : BitVec 32 := 128#32
  let v28 : BitVec 32 := Scalar.addi v27 c128_i32_23
  let c34_i32 : BitVec 32 := 34#32
  let v29 : BitVec 32 := Scalar.remsi v28 c34_i32
  let v918 : Index := Scalar.indexCast v29
  let c256_285 : Index := 256#32
  let c256_286 : Index := 256#32
  ![v918.toNat, 256, 256]
def k0_off52 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_26 : BitVec 32 := 3#32
  let v34 : BitVec 32 := Scalar.remsi v27 c3_i32_26
  let v1054 : Index := Scalar.indexCast v34
  let c256_336 : Index := 256#32
  let c128_337 : Index := 128#32
  ![v1054.toNat, 256, 128]
def k0_off53 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c128_i32_23 : BitVec 32 := 128#32
  let v28 : BitVec 32 := Scalar.addi v27 c128_i32_23
  let c34_i32 : BitVec 32 := 34#32
  let v29 : BitVec 32 := Scalar.remsi v28 c34_i32
  let v1060 : Index := Scalar.indexCast v29
  let c256_340 : Index := 256#32
  let c512_341 : Index := 512#32
  ![v1060.toNat, 256, 512]
def k0_off54 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_26 : BitVec 32 := 3#32
  let v34 : BitVec 32 := Scalar.remsi v27 c3_i32_26
  let v1196 : Index := Scalar.indexCast v34
  let c256_391 : Index := 256#32
  let c256_392 : Index := 256#32
  ![v1196.toNat, 256, 256]
def k0_off55 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c128_i32_23 : BitVec 32 := 128#32
  let v28 : BitVec 32 := Scalar.addi v27 c128_i32_23
  let c34_i32 : BitVec 32 := 34#32
  let v29 : BitVec 32 := Scalar.remsi v28 c34_i32
  let v1202 : Index := Scalar.indexCast v29
  let c256_395 : Index := 256#32
  let c768_396 : Index := 768#32
  ![v1202.toNat, 256, 768]
def k0_off56 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_26 : BitVec 32 := 3#32
  let v34 : BitVec 32 := Scalar.remsi v27 c3_i32_26
  let v1338 : Index := Scalar.indexCast v34
  let c256_446 : Index := 256#32
  let c384_447 : Index := 384#32
  ![v1338.toNat, 256, 384]
def k0_off57 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c128_i32_23 : BitVec 32 := 128#32
  let v28 : BitVec 32 := Scalar.addi v27 c128_i32_23
  let c34_i32 : BitVec 32 := 34#32
  let v29 : BitVec 32 := Scalar.remsi v28 c34_i32
  let v1344 : Index := Scalar.indexCast v29
  let c256_450 : Index := 256#32
  let c1024_451 : Index := 1024#32
  ![v1344.toNat, 256, 1024]
def k0_off58 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_26 : BitVec 32 := 3#32
  let v34 : BitVec 32 := Scalar.remsi v27 c3_i32_26
  let v1480 : Index := Scalar.indexCast v34
  let c256_501 : Index := 256#32
  let c512_502 : Index := 512#32
  ![v1480.toNat, 256, 512]
def k0_off59 (k0_t3 : Fin k0_t3_loop.trips) : Fin 1 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_26 : BitVec 32 := 3#32
  let v34 : BitVec 32 := Scalar.remsi v27 c3_i32_26
  ![v34.toNat]
def k0_off60 (k0_t3 : Fin k0_t3_loop.trips) : Fin 2 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c34_i32_24 : BitVec 32 := 34#32
  let v30 : BitVec 1 := Scalar.cmpi .slt v27 c34_i32_24
  let c94_i32 : BitVec 32 := 94#32
  let v31 : BitVec 32 := Scalar.addi c94_i32 v27
  let c34_i32_25 : BitVec 32 := 34#32
  let v32 : BitVec 32 := Scalar.subi v27 c34_i32_25
  let v33 : BitVec 32 := Scalar.select v30 v31 v32
  let c512_i32 : BitVec 32 := 512#32
  let v1484 : BitVec 32 := Scalar.muli v33 c512_i32
  let c0_i32_506 : BitVec 32 := 0#32
  ![v1484.toNat, 0]
def k0_off61 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_26 : BitVec 32 := 3#32
  let v34 : BitVec 32 := Scalar.remsi v27 c3_i32_26
  let c0_i32_507 : BitVec 32 := 0#32
  let c0_i32_508 : BitVec 32 := 0#32
  ![v34.toNat, 0, 0]
def k0_off62 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c34_i32_24 : BitVec 32 := 34#32
  let v30 : BitVec 1 := Scalar.cmpi .slt v27 c34_i32_24
  let c94_i32 : BitVec 32 := 94#32
  let v31 : BitVec 32 := Scalar.addi c94_i32 v27
  let c34_i32_25 : BitVec 32 := 34#32
  let v32 : BitVec 32 := Scalar.subi v27 c34_i32_25
  let v33 : BitVec 32 := Scalar.select v30 v31 v32
  let c8_i32_505 : BitVec 32 := 8#32
  let v1487 : BitVec 32 := Scalar.divsi v33 c8_i32_505
  let c0_i32_509 : BitVec 32 := 0#32
  let c8_i32_503 : BitVec 32 := 8#32
  let v1485 : BitVec 32 := Scalar.remsi v33 c8_i32_503
  let c512_i32_504 : BitVec 32 := 512#32
  let v1486 : BitVec 32 := Scalar.muli v1485 c512_i32_504
  ![v1487.toNat, 0, v1486.toNat]
def k0_off63 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c3_i32_26 : BitVec 32 := 3#32
  let v34 : BitVec 32 := Scalar.remsi v27 c3_i32_26
  let c0_i32_510 : BitVec 32 := 0#32
  let c0_i32_511 : BitVec 32 := 0#32
  ![v34.toNat, 0, 0]
def k0_cond4 (k0_t3 : Fin k0_t3_loop.trips) : BitVec 1 :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c34_i32_512 : BitVec 32 := 34#32
  let v1499 : BitVec 32 := Scalar.addi v27 c34_i32_512
  let c128_i32_513 : BitVec 32 := 128#32
  let v1500 : BitVec 1 := Scalar.cmpi .slt v1499 c128_i32_513
  let v1501 : BitVec 32 := Scalar.extui v1500
  let c0_i32_514 : BitVec 32 := 0#32
  let v1502 : BitVec 1 := Scalar.cmpi .ne v1501 c0_i32_514
  v1502

def k0_off64 (k0_t3 : Fin k0_t3_loop.trips) : Fin 1 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c128_i32_23 : BitVec 32 := 128#32
  let v28 : BitVec 32 := Scalar.addi v27 c128_i32_23
  let c34_i32 : BitVec 32 := 34#32
  let v29 : BitVec 32 := Scalar.remsi v28 c34_i32
  ![v29.toNat]
def k0_off65 (k0_t3 : Fin k0_t3_loop.trips) : Fin 3 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c128_i32_23 : BitVec 32 := 128#32
  let v28 : BitVec 32 := Scalar.addi v27 c128_i32_23
  let c34_i32 : BitVec 32 := 34#32
  let v29 : BitVec 32 := Scalar.remsi v28 c34_i32
  let c0_i32_516 : BitVec 32 := 0#32
  let c0_i32_517 : BitVec 32 := 0#32
  ![v29.toNat, 0, 0]
def k0_off66 (k0_t3 : Fin k0_t3_loop.trips) : Fin 2 → Nat :=
  let c0_i32_22 : BitVec 32 := 0#32
  let c0_i32_14 : BitVec 32 := 0#32
  let c1_i32_16 : BitVec 32 := 1#32
  let arg15 : BitVec 32 := Scf.iv c0_i32_14 c1_i32_16 k0_t3
  let c1_i32_21 : BitVec 32 := 1#32
  let v26 : BitVec 32 := Scalar.muli arg15 c1_i32_21
  let v27 : BitVec 32 := Scalar.addi c0_i32_22 v26
  let c512_i32_515 : BitVec 32 := 512#32
  let v1503 : BitVec 32 := Scalar.muli v27 c512_i32_515
  let c0_i32_518 : BitVec 32 := 0#32
  ![v1503.toNat, 0]
@[reducible] def k0_t4_loop : Scf.Loop 32 :=
  let c0_i32_18 : BitVec 32 := 0#32
  let c3_i32 : BitVec 32 := 3#32
  let v25 : BitVec 32 := Scalar.addi c0_i32_18 c3_i32
  let c1_i32_19 : BitVec 32 := 1#32
  ⟨c0_i32_18, v25, c1_i32_19⟩
def k0_off67 (k0_t4 : Fin k0_t4_loop.trips) : Fin 1 → Nat :=
  let c125_i32 : BitVec 32 := 125#32
  let c0_i32_18 : BitVec 32 := 0#32
  let c1_i32_19 : BitVec 32 := 1#32
  let arg15 : BitVec 32 := Scf.iv c0_i32_18 c1_i32_19 k0_t4
  let c1_i32_21 : BitVec 32 := 1#32
  let v26 : BitVec 32 := Scalar.muli arg15 c1_i32_21
  let v27 : BitVec 32 := Scalar.addi c125_i32 v26
  let c3_i32_22 : BitVec 32 := 3#32
  let v28 : BitVec 32 := Scalar.remsi v27 c3_i32_22
  ![v28.toNat]
def k0_off68 (k0_t4 : Fin k0_t4_loop.trips) : Fin 3 → Nat :=
  let c125_i32 : BitVec 32 := 125#32
  let c0_i32_18 : BitVec 32 := 0#32
  let c1_i32_19 : BitVec 32 := 1#32
  let arg15 : BitVec 32 := Scf.iv c0_i32_18 c1_i32_19 k0_t4
  let c1_i32_21 : BitVec 32 := 1#32
  let v26 : BitVec 32 := Scalar.muli arg15 c1_i32_21
  let v27 : BitVec 32 := Scalar.addi c125_i32 v26
  let c3_i32_22 : BitVec 32 := 3#32
  let v28 : BitVec 32 := Scalar.remsi v27 c3_i32_22
  let c0_i32_29 : BitVec 32 := 0#32
  let c0_i32_30 : BitVec 32 := 0#32
  ![v28.toNat, 0, 0]
def k0_off69 : Fin 3 → Nat :=
  let c0_i32_25 : BitVec 32 := 0#32
  let c8_i32_26 : BitVec 32 := 8#32
  let v31 : BitVec 32 := Scalar.divsi c0_i32_25 c8_i32_26
  let c0_i32_31 : BitVec 32 := 0#32
  let c0_i32_23 : BitVec 32 := 0#32
  let c8_i32_24 : BitVec 32 := 8#32
  let v29 : BitVec 32 := Scalar.remsi c0_i32_23 c8_i32_24
  let c512_i32 : BitVec 32 := 512#32
  let v30 : BitVec 32 := Scalar.muli v29 c512_i32
  ![v31.toNat, 0, v30.toNat]
def k0_off70 (k0_t4 : Fin k0_t4_loop.trips) : Fin 3 → Nat :=
  let c125_i32 : BitVec 32 := 125#32
  let c0_i32_18 : BitVec 32 := 0#32
  let c1_i32_19 : BitVec 32 := 1#32
  let arg15 : BitVec 32 := Scf.iv c0_i32_18 c1_i32_19 k0_t4
  let c1_i32_21 : BitVec 32 := 1#32
  let v26 : BitVec 32 := Scalar.muli arg15 c1_i32_21
  let v27 : BitVec 32 := Scalar.addi c125_i32 v26
  let c3_i32_22 : BitVec 32 := 3#32
  let v28 : BitVec 32 := Scalar.remsi v27 c3_i32_22
  let c0_i32_32 : BitVec 32 := 0#32
  let c0_i32_33 : BitVec 32 := 0#32
  ![v28.toNat, 0, 0]
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16x4096x1280 : Shape := ⟨3, ![16, 4096, 1280]⟩
abbrev S16x4096x80x16 : Shape := ⟨4, ![16, 4096, 80, 16]⟩
abbrev S65536x640 : Shape := ⟨2, ![65536, 640]⟩
abbrev S16x80x4096 : Shape := ⟨3, ![16, 80, 4096]⟩
abbrev S1x1 : Shape := ⟨2, ![1, 1]⟩
abbrev S1x16x4096x80x16 : Shape := ⟨5, ![1, 16, 4096, 80, 16]⟩
abbrev S1 : Shape := ⟨1, ![1]⟩
abbrev S1x1x1x1x1 : Shape := ⟨5, ![1, 1, 1, 1, 1]⟩
abbrev S1x1x1x1 : Shape := ⟨4, ![1, 1, 1, 1]⟩
abbrev S16x4096x80 : Shape := ⟨3, ![16, 4096, 80]⟩
abbrev S16x4096x80x1 : Shape := ⟨4, ![16, 4096, 80, 1]⟩
abbrev S65536x640x2 : Shape := ⟨3, ![65536, 640, 2]⟩
abbrev S65536x640x1 : Shape := ⟨3, ![65536, 640, 1]⟩

abbrev nBuf : Space → Nat
  | .hbm => 5
  | .vmem => 4
  | .smem => 0
  | _ => 0

abbrev bufTy : (tb : Table) → Fin (tcTables nBuf tb) → BufTy
  | .hbm, ⟨0, _⟩ => ⟨S16x4096x1280, .bf16⟩
  | .hbm, ⟨1, _⟩ => ⟨S16x4096x80x16, .bf16⟩
  | .hbm, ⟨2, _⟩ => ⟨S65536x640, .i8⟩
  | .hbm, ⟨3, _⟩ => ⟨S16x80x4096, .fp8e4m3⟩
  | .hbm, ⟨4, _⟩ => ⟨S1x1, .f32⟩
  | .local _ .vmem, ⟨0, _⟩ => ⟨S16x4096x80x16, .bf16⟩
  | .local _ .vmem, ⟨1, _⟩ => ⟨S65536x640, .i8⟩
  | .local _ .vmem, ⟨2, _⟩ => ⟨S16x80x4096, .fp8e4m3⟩
  | .local _ .vmem, ⟨3, _⟩ => ⟨S1x1, .f32⟩
  | _, _ => ⟨S16x4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x4096x80x16 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S65536x640 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x80x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Same.lean ====
/-
  The kernel as printed and the kernel read at the ideal numbers are one text: their body tables and their mains are
  equal, so what is proved of the one at any numbers holds of the other.
-/
module

public import proofs.«01_k».proof.Proof.Gen.Kernel
public import proofs.«01_k».proof.Proof.Gen.KernelIdeal

@[expose] public section

set_option maxHeartbeats 4000000
set_option maxRecDepth 100000

noncomputable section

namespace Cert.Same

open Idealize.ShloMosaic Idealize.SL.Sem

variable {F : FTy → Type} [FloatOps F]

/-- The tensor core's body tables are equal. -/
theorem defs_tc : (Cert.Kernel.defs₀ (F := F)) .tc = (Cert.KernelIdeal.defs₀ (F := F)) .tc := by
  funext ℓ a
  match ℓ, a with
  | ⟨0, _⟩, (t, s) =>
    change Cert.Kernel.cc0_nvfp4_quantise _ _ _ _ _ _ _ _ _ _ _ _ _ _ _ _ _ _ _ _ _ _ _ _ _ _ _
      = Cert.KernelIdeal.cc0_nvfp4_quantise _ _ _ _ _ _ _ _ _ _ _ _ _ _ _ _ _ _ _ _ _ _ _ _ _ _ _
    rfl
  | ⟨n + 1, h⟩, _ => exact absurd h (Nat.not_lt.2 (Nat.le_add_left _ _))
/-- The kernels' body tables are equal. -/
theorem defs₀_eq : Cert.Kernel.defs₀ (F := F) = Cert.KernelIdeal.defs₀ (F := F) := by
  funext p
  match p with
  | .tc => exact defs_tc
  | .scScalar _ => rfl
  | .scVector _ _ => rfl
/-- The whole body tables are equal. -/
theorem defs_eq : Cert.Kernel.defs (F := F) = Cert.KernelIdeal.defs (F := F) := congrArg (Pipeline.defs Cert.KernelIdeal.pcfgs) defs₀_eq
/-- The mains are equal. -/
theorem main_eq : Cert.Kernel.main (F := F) = Cert.KernelIdeal.main (F := F) := rfl

end Cert.Same
-- ==== Proof.Ideal.Names.lean ====
/-
  The kernel's own transfers, by name: the tiles of the array it reads, the slots of its ring, the slots of its two
  output buffers, the tiles of its two results, and the semaphore cells, each under ONE name whatever expression the
  body computes it by. `x` is cut in 128 tiles of 512 rows; the ring has 34 slots; each output buffer has 3 slots.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Affine
public import Idealize.ShloMosaic.Lib.Tactic

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The arrays and buffers, whole -/

/-- The array read. -/
abbrev xM : Memref sig .tc .hbm S65536x1280 .bf16 := Memref.whole main_v0
/-- The packed result. -/
abbrev pkM : Memref sig .tc .hbm S65536x640 .i8 := Memref.whole main_v16_0
/-- The result of block scales. -/
abbrev sbM : Memref sig .tc .hbm S16x80x4096 .fp8e4m3 := Memref.whole main_v16_1
/-- The ring of tiles. -/
abbrev ringM : Memref sig .tc .vmem S34x512x1280 .bf16 := Memref.whole cc0_scratch0
/-- The buffer of block maxima. -/
abbrev amaxM : Memref sig .tc .vmem S128x80x512 .bf16 := Memref.whole cc0_scratch1
/-- The buffer of running maxima. -/
abbrev gmaxM : Memref sig .tc .vmem S16x256 .f32 := Memref.whole cc0_scratch2
/-- The buffer of reciprocals. -/
abbrev rbufM : Memref sig .tc .vmem S80x512 .f32 := Memref.whole cc0_scratch3
/-- The buffer of packed tiles. -/
abbrev opkM : Memref sig .tc .vmem S3x512x640 .i8 := Memref.whole cc0_scratch4
/-- The buffer of scale tiles. -/
abbrev osbM : Memref sig .tc .vmem S3x80x512 .fp8e4m3 := Memref.whole cc0_scratch5

/-! ## Offsets of the named pieces, and that they lie inside -/

/-- Where tile `b` of the array read begins. -/
abbrev xOff (b : Fin 128) : Fin 2 → Nat := ![512 * b.val, 0]
/-- Tile `b` lies in the array read. -/
theorem xOff_inb (b : Fin 128) : ∀ a, xOff b a + S512x1280.size a ≤ S65536x1280.size a := by
  have := b.isLt; intro a; fin_cases a
  · show 512 * b.val + 512 ≤ 65536; omega
  · show 0 + 1280 ≤ 1280; omega
/-- Where tile `b` of the packed result begins. -/
abbrev pkOff (b : Fin 128) : Fin 2 → Nat := ![512 * b.val, 0]
/-- Tile `b` lies in the packed result. -/
theorem pkOff_inb (b : Fin 128) : ∀ a, pkOff b a + S512x640.size a ≤ S65536x640.size a := by
  have := b.isLt; intro a; fin_cases a
  · show 512 * b.val + 512 ≤ 65536; omega
  · show 0 + 640 ≤ 640; omega
/-- Where tile `b` of the block scales begins. -/
abbrev sbOff (b : Fin 128) : Fin 3 → Nat := ![b.val / 8, 0, b.val % 8 * 512]
/-- Tile `b` lies in the block scales. -/
theorem sbOff_inb (b : Fin 128) : ∀ a, sbOff b a + S1x80x512.size a ≤ S16x80x4096.size a := by
  have := b.isLt; intro a; fin_cases a
  · show b.val / 8 + 1 ≤ 16; omega
  · show 0 + 80 ≤ 80; omega
  · show b.val % 8 * 512 + 512 ≤ 4096; omega
/-- Where slot `s` of the ring begins. -/
abbrev ringOff (s : Fin 34) : Fin 3 → Nat := ![s.val, 0, 0]
/-- Slot `s` lies in the ring. -/
theorem ringOff_inb (s : Fin 34) : ∀ a, ringOff s a + S1x512x1280.size a ≤ S34x512x1280.size a := by
  have := s.isLt; intro a; fin_cases a
  · show s.val + 1 ≤ 34; omega
  · show 0 + 512 ≤ 512; omega
  · show 0 + 1280 ≤ 1280; omega
/-- Where slot `s` of an output buffer begins. -/
abbrev outOff (s : Fin 3) : Fin 3 → Nat := ![s.val, 0, 0]
/-- Slot `s` lies in the buffer of packed tiles. -/
theorem opkOff_inb (s : Fin 3) : ∀ a, outOff s a + S1x512x640.size a ≤ S3x512x640.size a := by
  have := s.isLt; intro a; fin_cases a
  · show s.val + 1 ≤ 3; omega
  · show 0 + 512 ≤ 512; omega
  · show 0 + 640 ≤ 640; omega
/-- Slot `s` lies in the buffer of scale tiles. -/
theorem osbOff_inb (s : Fin 3) : ∀ a, outOff s a + S1x80x512.size a ≤ S3x80x512.size a := by
  have := s.isLt; intro a; fin_cases a
  · show s.val + 1 ≤ 3; omega
  · show 0 + 80 ≤ 80; omega
  · show 0 + 512 ≤ 512; omega
/-- The place of the ring slot's cell. -/
abbrev inOff (s : Fin 34) : Fin 1 → Nat := ![s.val]
/-- The ring slot's cell is there. -/
theorem inOff_inb (s : Fin 34) : ∀ a, inOff s a + S1.size a ≤ S34.size a := by
  have := s.isLt; intro a; fin_cases a; show s.val + 1 ≤ 34; omega
/-- The place of an output slot's cell. -/
abbrev oOff (s : Fin 3) : Fin 1 → Nat := ![s.val]
/-- The output slot's cell is there. -/
theorem oOff_inb (s : Fin 3) : ∀ a, oOff s a + S1.size a ≤ S3.size a := by
  have := s.isLt; intro a; fin_cases a; show s.val + 1 ≤ 3; omega

/-! ## The named pieces, as the body slices and squeezes them -/

/-- Tile `b` of the array read. -/
def xT (b : Fin 128) : Memref sig .tc .hbm S512x1280 .bf16 :=
  xM.slice (Rect.unit (s := S65536x1280) (xOff b) S512x1280.size (xOff_inb b)) (fun _ => rfl)
/-- Tile `b` of the packed result. -/
def pkT (b : Fin 128) : Memref sig .tc .hbm S512x640 .i8 :=
  pkM.slice (Rect.unit (s := S65536x640) (pkOff b) S512x640.size (pkOff_inb b)) (fun _ => rfl)
/-- Tile `b` of the scale result. -/
def sbT (b : Fin 128) : Memref sig .tc .hbm S80x512 .fp8e4m3 :=
  (sbM.slice (Rect.unit (s := S16x80x4096) (sbOff b) S1x80x512.size (sbOff_inb b)) (fun _ => rfl)).squeeze S80x512 squeezes_S1x80x512_S80x512
/-- Slot `s` of the ring. -/
def rslot (s : Fin 34) : Memref sig .tc .vmem S512x1280 .bf16 :=
  (ringM.slice (Rect.unit (s := S34x512x1280) (ringOff s) S1x512x1280.size (ringOff_inb s)) (fun _ => rfl)).squeeze S512x1280 squeezes_S1x512x1280_S512x1280
/-- Slot `s` of the buffer of packed tiles. -/
def pslot (s : Fin 3) : Memref sig .tc .vmem S512x640 .i8 :=
  (opkM.slice (Rect.unit (s := S3x512x640) (outOff s) S1x512x640.size (opkOff_inb s)) (fun _ => rfl)).squeeze S512x640 squeezes_S1x512x640_S512x640
/-- Slot `s` of the buffer of scale tiles. -/
def sslot (s : Fin 3) : Memref sig .tc .vmem S80x512 .fp8e4m3 :=
  (osbM.slice (Rect.unit (s := S3x80x512) (outOff s) S1x80x512.size (osbOff_inb s)) (fun _ => rfl)).squeeze S80x512 squeezes_S1x80x512_S80x512
/-- The ring slot's cell, the packed slot's cell, the scale slot's cell. -/
def inC (s : Fin 34) : DmaSems sig S_ := (cc0_scratch6.slice (Rect.unit (s := S34) (inOff s) S1.size (inOff_inb s))).squeeze S_ squeezes_S1_S_
/-- The cell of a slot of packed tiles. -/
def pkC (s : Fin 3) : DmaSems sig S_ := (cc0_scratch7.slice (Rect.unit (s := S3) (oOff s) S1.size (oOff_inb s))).squeeze S_ squeezes_S1_S_
/-- The cell of a slot of scale tiles. -/
def sbC (s : Fin 3) : DmaSems sig S_ := (cc0_scratch8.slice (Rect.unit (s := S3) (oOff s) S1.size (oOff_inb s))).squeeze S_ squeezes_S1_S_

instance (s : Fin 34) : ClosedOff (ringOff s) := ⟨ringOff s, rfl⟩
instance (s : Fin 3) : ClosedOff (outOff s) := ⟨outOff s, rfl⟩
instance (b : Fin 128) : ClosedOff (xOff b) := ⟨xOff b, rfl⟩
instance (b : Fin 128) : ClosedOff (sbOff b) := ⟨sbOff b, rfl⟩

/-! ## The third loop's tile at each step, and the branches taken -/

/-- The tile that step `i` of the third loop quantises: the 34 tiles still in the ring first, then the others. -/
def tl (i : ℕ) : ℕ := if i < 34 then 94 + i else i - 34
/-- The tile of a step is one of the 128. -/
theorem tl_lt {i : ℕ} (h : i < 128) : tl i < 128 := by unfold tl; split <;> omega

/-- The place a later step reloads from is a tile's. -/
theorem off32_eq (k : Fin k0_t3_loop.trips) (h : 34 ≤ k.val) : k0_off32 k = xOff (Ring.bk 128 (k.val - 34)) := by
  revert h; revert k; decide +kernel
/-- The place a step reads the block maxima at is its tile's row. -/
theorem off37_eq (k : Fin k0_t3_loop.trips) : k0_off37 k = ![tl k.val, 0, 0] := by
  revert k; decide +kernel
instance (k : Fin k0_t3_loop.trips) : ClosedOff (k0_off37 k) := ⟨_, off37_eq k⟩
/-- The place a step sends its packed tile to is its tile's. -/
theorem off60_eq (k : Fin k0_t3_loop.trips) : k0_off60 k = pkOff (Ring.bk 128 (tl k.val)) := by
  revert k; decide +kernel
/-- The place a step sends its scale tile to is its tile's. -/
theorem off62_eq (k : Fin k0_t3_loop.trips) : k0_off62 k = sbOff (Ring.bk 128 (tl k.val)) := by
  revert k; decide +kernel

/-- When the second loop starts a transfer. -/
theorem cond1_iff (k : Fin k0_t2_loop.trips) : k0_cond1 k = 1#1 ↔ k.val + 8 < 128 := by revert k; decide +kernel
/-- When the third loop waits for a tile. -/
theorem cond2_iff (k : Fin k0_t3_loop.trips) : k0_cond2 k = 1#1 ↔ 34 ≤ k.val := by revert k; decide +kernel
/-- When the third loop waits for its output slot. -/
theorem cond3_iff (k : Fin k0_t3_loop.trips) : k0_cond3 k = 1#1 ↔ 3 ≤ k.val := by revert k; decide +kernel
/-- When the third loop starts a reload. -/
theorem cond4_iff (k : Fin k0_t3_loop.trips) : k0_cond4 k = 1#1 ↔ k.val + 34 < 128 := by revert k; decide +kernel

/-- The first loop has 8 steps. -/
theorem trips1 : k0_t1_loop.trips = 8 := by decide +kernel
/-- The second loop has 128 steps. -/
theorem trips2 : k0_t2_loop.trips = 128 := by decide +kernel
/-- The third loop has 128 steps. -/
theorem trips3 : k0_t3_loop.trips = 128 := by decide +kernel
/-- The fourth loop has 3 steps. -/
theorem trips4 : k0_t4_loop.trips = 3 := by decide +kernel
/-- A step of the first loop is below 8. -/
theorem lt1 (k : Fin k0_t1_loop.trips) : k.val < 8 := trips1 ▸ k.isLt
/-- A step of the second loop is below 128. -/
theorem lt2 (k : Fin k0_t2_loop.trips) : k.val < 128 := trips2 ▸ k.isLt
/-- A step of the third loop is below 128. -/
theorem lt3 (k : Fin k0_t3_loop.trips) : k.val < 128 := trips3 ▸ k.isLt
/-- A step of the fourth loop is below 3. -/
theorem lt4 (k : Fin k0_t4_loop.trips) : k.val < 3 := trips4 ▸ k.isLt

/-! ## The body's slices are the named pieces -/

/-- A ring cell named by an equal place is the same cell. -/
theorem inC_congr {off : Fin 1 → Nat} {s : Fin 34} (e : off = inOff s) (hh) :
    (cc0_scratch6.slice (Rect.unit (s := S34) off S1.size hh)).squeeze S_ squeezes_S1_S_ = inC s :=
  congrArg (fun A : DmaSems sig S1 => A.squeeze S_ squeezes_S1_S_) (SemArray.slice_unit_congr _ e _ _)
/-- A packed slot's cell named by an equal place is the same cell. -/
theorem pkC_congr {off : Fin 1 → Nat} {s : Fin 3} (e : off = oOff s) (hh) :
    (cc0_scratch7.slice (Rect.unit (s := S3) off S1.size hh)).squeeze S_ squeezes_S1_S_ = pkC s :=
  congrArg (fun A : DmaSems sig S1 => A.squeeze S_ squeezes_S1_S_) (SemArray.slice_unit_congr _ e _ _)
/-- A scale slot's cell named by an equal place is the same cell. -/
theorem sbC_congr {off : Fin 1 → Nat} {s : Fin 3} (e : off = oOff s) (hh) :
    (cc0_scratch8.slice (Rect.unit (s := S3) off S1.size hh)).squeeze S_ squeezes_S1_S_ = sbC s :=
  congrArg (fun A : DmaSems sig S1 => A.squeeze S_ squeezes_S1_S_) (SemArray.slice_unit_congr _ e _ _)
/-- A ring slot named by an equal place is the same slot. -/
theorem rslot_congr {off : Fin 3 → Nat} {s : Fin 34} (e : off = ringOff s) (hh hs) :
    (ringM.slice (Rect.unit (s := S34x512x1280) off S1x512x1280.size hh) hs).squeeze S512x1280 squeezes_S1x512x1280_S512x1280 = rslot s :=
  congrArg (fun M : Memref sig .tc .vmem S1x512x1280 .bf16 => M.squeeze S512x1280 squeezes_S1x512x1280_S512x1280) (Memref.slice_unit_congr _ e _ _ _ _)
/-- A packed slot named by an equal place is the same slot. -/
theorem pslot_congr {off : Fin 3 → Nat} {s : Fin 3} (e : off = outOff s) (hh hs) :
    (opkM.slice (Rect.unit (s := S3x512x640) off S1x512x640.size hh) hs).squeeze S512x640 squeezes_S1x512x640_S512x640 = pslot s :=
  congrArg (fun M : Memref sig .tc .vmem S1x512x640 .i8 => M.squeeze S512x640 squeezes_S1x512x640_S512x640) (Memref.slice_unit_congr _ e _ _ _ _)
/-- A scale slot named by an equal place is the same slot. -/
theorem sslot_congr {off : Fin 3 → Nat} {s : Fin 3} (e : off = outOff s) (hh hs) :
    (osbM.slice (Rect.unit (s := S3x80x512) off S1x80x512.size hh) hs).squeeze S80x512 squeezes_S1x80x512_S80x512 = sslot s :=
  congrArg (fun M : Memref sig .tc .vmem S1x80x512 .fp8e4m3 => M.squeeze S80x512 squeezes_S1x80x512_S80x512) (Memref.slice_unit_congr _ e _ _ _ _)
/-- A tile of the block scales named by an equal place is the same tile. -/
theorem sbT_congr {off : Fin 3 → Nat} {b : Fin 128} (e : off = sbOff b) (hh hs) :
    (sbM.slice (Rect.unit (s := S16x80x4096) off S1x80x512.size hh) hs).squeeze S80x512 squeezes_S1x80x512_S80x512 = sbT b :=
  congrArg (fun M : Memref sig .tc .hbm S1x80x512 .fp8e4m3 => M.squeeze S80x512 squeezes_S1x80x512_S80x512) (Memref.slice_unit_congr _ e _ _ _ _)
/-- A tile of the array read named by an equal place is the same tile. -/
theorem xT_congr {off : Fin 2 → Nat} {b : Fin 128} (e : off = xOff b) (hh hs) :
    xM.slice (Rect.unit (s := S65536x1280) off S512x1280.size hh) hs = xT b := Memref.slice_unit_congr _ e _ _ _ (fun _ => rfl)
/-- A tile of the packed result named by an equal place is the same tile. -/
theorem pkT_congr {off : Fin 2 → Nat} {b : Fin 128} (e : off = pkOff b) (hh hs) :
    pkM.slice (Rect.unit (s := S65536x640) off S512x640.size hh) hs = pkT b := Memref.slice_unit_congr _ e _ _ _ (fun _ => rfl)

/-! ### First loop -/
@[sl_canon] theorem c_off1 (k : Fin k0_t1_loop.trips) (hh) :
    (cc0_scratch6.slice (Rect.unit (s := S34) (k0_off1 k) S1.size hh)).squeeze S_ squeezes_S1_S_ = inC (Ring.sl 34 k.val) :=
  inC_congr (by rw [k0_off1_eq]; show _ = ![k.val % 34]; rw [Nat.mod_eq_of_lt (by have := lt1 k; omega)]) _
@[sl_canon] theorem c_off2 (k : Fin k0_t1_loop.trips) (hh hs) :
    (ringM.slice (Rect.unit (s := S34x512x1280) (k0_off2 k) S1x512x1280.size hh) hs).squeeze S512x1280 squeezes_S1x512x1280_S512x1280 = rslot (Ring.sl 34 k.val) :=
  rslot_congr (by rw [k0_off2_eq]; show _ = ![k.val % 34, 0, 0]; rw [Nat.mod_eq_of_lt (by have := lt1 k; omega)]) _ _
@[sl_canon] theorem c_off3 (k : Fin k0_t1_loop.trips) (hh hs) :
    xM.slice (Rect.unit (s := S65536x1280) (k0_off3 k) S512x1280.size hh) hs = xT (Ring.bk 128 k.val) :=
  xT_congr (by rw [k0_off3_eq]; show _ = ![512 * (k.val % 128), 0]; rw [Nat.mod_eq_of_lt (by have := lt1 k; omega)]) _ _

/-! ### Second loop -/
@[sl_canon] theorem c_off4 (k : Fin k0_t2_loop.trips) (hh) :
    (cc0_scratch6.slice (Rect.unit (s := S34) (k0_off4 k) S1.size hh)).squeeze S_ squeezes_S1_S_ = inC (Ring.sl 34 (k.val + 8)) :=
  inC_congr (k0_off4_eq k) _
@[sl_canon] theorem c_off5 (k : Fin k0_t2_loop.trips) (hh hs) :
    (ringM.slice (Rect.unit (s := S34x512x1280) (k0_off5 k) S1x512x1280.size hh) hs).squeeze S512x1280 squeezes_S1x512x1280_S512x1280 = rslot (Ring.sl 34 (k.val + 8)) :=
  rslot_congr (k0_off5_eq k) _ _
@[sl_canon] theorem c_off6 (k : Fin k0_t2_loop.trips) (hk : k.val + 8 < 128) (hh hs) :
    xM.slice (Rect.unit (s := S65536x1280) (k0_off6 k) S512x1280.size hh) hs = xT (Ring.bk 128 (k.val + 8)) :=
  xT_congr (by rw [k0_off6_eq]; show _ = ![512 * ((k.val + 8) % 128), 0]; rw [Nat.mod_eq_of_lt hk, Nat.mul_add]) _ _
@[sl_canon] theorem c_off7 (k : Fin k0_t2_loop.trips) (hh) :
    (cc0_scratch6.slice (Rect.unit (s := S34) (k0_off7 k) S1.size hh)).squeeze S_ squeezes_S1_S_ = inC (Ring.sl 34 k.val) :=
  inC_congr (k0_off7_eq k) _
@[sl_canon] theorem c_off8 (k : Fin k0_t2_loop.trips) (hh hs) :
    (ringM.slice (Rect.unit (s := S34x512x1280) (k0_off8 k) S1x512x1280.size hh) hs).squeeze S512x1280 squeezes_S1x512x1280_S512x1280 = rslot (Ring.sl 34 k.val) :=
  rslot_congr (k0_off8_eq k) _ _
@[sl_canon] theorem c_off9 (k : Fin k0_t2_loop.trips) (hh hs) :
    xM.slice (Rect.unit (s := S65536x1280) (k0_off9 k) S512x1280.size hh) hs = xT (Ring.bk 128 k.val) :=
  xT_congr (by rw [k0_off9_eq]; show _ = ![512 * (k.val % 128), 0]; rw [Nat.mod_eq_of_lt (lt2 k)]) _ _

/-! ### Third loop -/
@[sl_canon] theorem c_off30 (k : Fin k0_t3_loop.trips) (hh) :
    (cc0_scratch6.slice (Rect.unit (s := S34) (k0_off30 k) S1.size hh)).squeeze S_ squeezes_S1_S_ = inC (Ring.sl 34 (k.val + 128)) :=
  inC_congr (k0_off30_eq k) _
@[sl_canon] theorem c_off31 (k : Fin k0_t3_loop.trips) (hh hs) :
    (ringM.slice (Rect.unit (s := S34x512x1280) (k0_off31 k) S1x512x1280.size hh) hs).squeeze S512x1280 squeezes_S1x512x1280_S512x1280 = rslot (Ring.sl 34 (k.val + 128)) :=
  rslot_congr (k0_off31_eq k) _ _
@[sl_canon] theorem c_off32 (k : Fin k0_t3_loop.trips) (hk : 34 ≤ k.val) (hh hs) :
    xM.slice (Rect.unit (s := S65536x1280) (k0_off32 k) S512x1280.size hh) hs = xT (Ring.bk 128 (k.val - 34)) :=
  xT_congr (off32_eq k hk) _ _
@[sl_canon] theorem c_off33 (k : Fin k0_t3_loop.trips) (hh) :
    (cc0_scratch7.slice (Rect.unit (s := S3) (k0_off33 k) S1.size hh)).squeeze S_ squeezes_S1_S_ = pkC (Ring.sl 3 k.val) :=
  pkC_congr (k0_off33_eq k) _
@[sl_canon] theorem c_off33' (k : Fin k0_t3_loop.trips) (hh) :
    (cc0_scratch8.slice (Rect.unit (s := S3) (k0_off33 k) S1.size hh)).squeeze S_ squeezes_S1_S_ = sbC (Ring.sl 3 k.val) :=
  sbC_congr (k0_off33_eq k) _
@[sl_canon] theorem c_off34 (k : Fin k0_t3_loop.trips) (hh hs) :
    (opkM.slice (Rect.unit (s := S3x512x640) (k0_off34 k) S1x512x640.size hh) hs).squeeze S512x640 squeezes_S1x512x640_S512x640 = pslot (Ring.sl 3 k.val) :=
  pslot_congr (k0_off34_eq k) _ _
@[sl_canon] theorem c_off36 (k : Fin k0_t3_loop.trips) (hh hs) :
    (osbM.slice (Rect.unit (s := S3x80x512) (k0_off36 k) S1x80x512.size hh) hs).squeeze S80x512 squeezes_S1x80x512_S80x512 = sslot (Ring.sl 3 k.val) :=
  sslot_congr (k0_off36_eq k) _ _
@[sl_canon] theorem c_off59 (k : Fin k0_t3_loop.trips) (hh) :
    (cc0_scratch7.slice (Rect.unit (s := S3) (k0_off59 k) S1.size hh)).squeeze S_ squeezes_S1_S_ = pkC (Ring.sl 3 k.val) :=
  pkC_congr (k0_off59_eq k) _
@[sl_canon] theorem c_off59' (k : Fin k0_t3_loop.trips) (hh) :
    (cc0_scratch8.slice (Rect.unit (s := S3) (k0_off59 k) S1.size hh)).squeeze S_ squeezes_S1_S_ = sbC (Ring.sl 3 k.val) :=
  sbC_congr (k0_off59_eq k) _
@[sl_canon] theorem c_off60 (k : Fin k0_t3_loop.trips) (hh hs) :
    pkM.slice (Rect.unit (s := S65536x640) (k0_off60 k) S512x640.size hh) hs = pkT (Ring.bk 128 (tl k.val)) :=
  pkT_congr (off60_eq k) _ _
@[sl_canon] theorem c_off61 (k : Fin k0_t3_loop.trips) (hh hs) :
    (opkM.slice (Rect.unit (s := S3x512x640) (k0_off61 k) S1x512x640.size hh) hs).squeeze S512x640 squeezes_S1x512x640_S512x640 = pslot (Ring.sl 3 k.val) :=
  pslot_congr (k0_off61_eq k) _ _
@[sl_canon] theorem c_off62 (k : Fin k0_t3_loop.trips) (hh hs) :
    (sbM.slice (Rect.unit (s := S16x80x4096) (k0_off62 k) S1x80x512.size hh) hs).squeeze S80x512 squeezes_S1x80x512_S80x512 = sbT (Ring.bk 128 (tl k.val)) :=
  sbT_congr (off62_eq k) _ _
@[sl_canon] theorem c_off63 (k : Fin k0_t3_loop.trips) (hh hs) :
    (osbM.slice (Rect.unit (s := S3x80x512) (k0_off63 k) S1x80x512.size hh) hs).squeeze S80x512 squeezes_S1x80x512_S80x512 = sslot (Ring.sl 3 k.val) :=
  sslot_congr (k0_off63_eq k) _ _
@[sl_canon] theorem c_off64 (k : Fin k0_t3_loop.trips) (hh) :
    (cc0_scratch6.slice (Rect.unit (s := S34) (k0_off64 k) S1.size hh)).squeeze S_ squeezes_S1_S_ = inC (Ring.sl 34 (k.val + 128)) :=
  inC_congr (k0_off64_eq k) _
@[sl_canon] theorem c_off65 (k : Fin k0_t3_loop.trips) (hh hs) :
    (ringM.slice (Rect.unit (s := S34x512x1280) (k0_off65 k) S1x512x1280.size hh) hs).squeeze S512x1280 squeezes_S1x512x1280_S512x1280 = rslot (Ring.sl 34 (k.val + 128)) :=
  rslot_congr (k0_off65_eq k) _ _
@[sl_canon] theorem c_off66 (k : Fin k0_t3_loop.trips) (hh hs) :
    xM.slice (Rect.unit (s := S65536x1280) (k0_off66 k) S512x1280.size hh) hs = xT (Ring.bk 128 k.val) :=
  xT_congr (by rw [k0_off66_eq]; show _ = ![512 * (k.val % 128), 0]; rw [Nat.mod_eq_of_lt (lt3 k)]) _ _

/-! ### Fourth loop -/
@[sl_canon] theorem c_off67 (k : Fin k0_t4_loop.trips) (hh) :
    (cc0_scratch7.slice (Rect.unit (s := S3) (k0_off67 k) S1.size hh)).squeeze S_ squeezes_S1_S_ = pkC (Ring.sl 3 (k.val + 125)) :=
  pkC_congr (k0_off67_eq k) _
@[sl_canon] theorem c_off67' (k : Fin k0_t4_loop.trips) (hh) :
    (cc0_scratch8.slice (Rect.unit (s := S3) (k0_off67 k) S1.size hh)).squeeze S_ squeezes_S1_S_ = sbC (Ring.sl 3 (k.val + 125)) :=
  sbC_congr (k0_off67_eq k) _
@[sl_canon] theorem c_off68 (k : Fin k0_t4_loop.trips) (hh hs) :
    (opkM.slice (Rect.unit (s := S3x512x640) (k0_off68 k) S1x512x640.size hh) hs).squeeze S512x640 squeezes_S1x512x640_S512x640 = pslot (Ring.sl 3 (k.val + 125)) :=
  pslot_congr (k0_off68_eq k) _ _
@[sl_canon] theorem c_off70 (k : Fin k0_t4_loop.trips) (hh hs) :
    (osbM.slice (Rect.unit (s := S3x80x512) (k0_off70 k) S1x80x512.size hh) hs).squeeze S80x512 squeezes_S1x80x512_S80x512 = sslot (Ring.sl 3 (k.val + 125)) :=
  sslot_congr (k0_off70_eq k) _ _

/-! ## The boxes the body loads and stores inside a slot, at the slot's own number -/

instance (k : Fin k0_t2_loop.trips) : ClosedOff (k0_off10 k) := ⟨![(Ring.sl 34 k.val).val, 0, 0], k0_off10_eq k⟩
instance (k : Fin k0_t2_loop.trips) : ClosedOff (k0_off12 k) := ⟨![(Ring.sl 34 k.val).val, 0, 256], k0_off12_eq k⟩
instance (k : Fin k0_t2_loop.trips) : ClosedOff (k0_off14 k) := ⟨![(Ring.sl 34 k.val).val, 0, 512], k0_off14_eq k⟩
instance (k : Fin k0_t2_loop.trips) : ClosedOff (k0_off16 k) := ⟨![(Ring.sl 34 k.val).val, 0, 768], k0_off16_eq k⟩
instance (k : Fin k0_t2_loop.trips) : ClosedOff (k0_off18 k) := ⟨![(Ring.sl 34 k.val).val, 0, 1024], k0_off18_eq k⟩
instance (k : Fin k0_t2_loop.trips) : ClosedOff (k0_off20 k) := ⟨![(Ring.sl 34 k.val).val, 256, 0], k0_off20_eq k⟩
instance (k : Fin k0_t2_loop.trips) : ClosedOff (k0_off22 k) := ⟨![(Ring.sl 34 k.val).val, 256, 256], k0_off22_eq k⟩
instance (k : Fin k0_t2_loop.trips) : ClosedOff (k0_off24 k) := ⟨![(Ring.sl 34 k.val).val, 256, 512], k0_off24_eq k⟩
instance (k : Fin k0_t2_loop.trips) : ClosedOff (k0_off26 k) := ⟨![(Ring.sl 34 k.val).val, 256, 768], k0_off26_eq k⟩
instance (k : Fin k0_t2_loop.trips) : ClosedOff (k0_off28 k) := ⟨![(Ring.sl 34 k.val).val, 256, 1024], k0_off28_eq k⟩
instance (k : Fin k0_t3_loop.trips) : ClosedOff (k0_off39 k) := ⟨![(Ring.sl 34 (k.val + 128)).val, 0, 0], k0_off39_eq k⟩
instance (k : Fin k0_t3_loop.trips) : ClosedOff (k0_off40 k) := ⟨![(Ring.sl 3 k.val).val, 0, 0], k0_off40_eq k⟩
instance (k : Fin k0_t3_loop.trips) : ClosedOff (k0_off41 k) := ⟨![(Ring.sl 34 (k.val + 128)).val, 0, 256], k0_off41_eq k⟩
instance (k : Fin k0_t3_loop.trips) : ClosedOff (k0_off42 k) := ⟨![(Ring.sl 3 k.val).val, 0, 128], k0_off42_eq k⟩
instance (k : Fin k0_t3_loop.trips) : ClosedOff (k0_off43 k) := ⟨![(Ring.sl 34 (k.val + 128)).val, 0, 512], k0_off43_eq k⟩
instance (k : Fin k0_t3_loop.trips) : ClosedOff (k0_off44 k) := ⟨![(Ring.sl 3 k.val).val, 0, 256], k0_off44_eq k⟩
instance (k : Fin k0_t3_loop.trips) : ClosedOff (k0_off45 k) := ⟨![(Ring.sl 34 (k.val + 128)).val, 0, 768], k0_off45_eq k⟩
instance (k : Fin k0_t3_loop.trips) : ClosedOff (k0_off46 k) := ⟨![(Ring.sl 3 k.val).val, 0, 384], k0_off46_eq k⟩
instance (k : Fin k0_t3_loop.trips) : ClosedOff (k0_off47 k) := ⟨![(Ring.sl 34 (k.val + 128)).val, 0, 1024], k0_off47_eq k⟩
instance (k : Fin k0_t3_loop.trips) : ClosedOff (k0_off48 k) := ⟨![(Ring.sl 3 k.val).val, 0, 512], k0_off48_eq k⟩
instance (k : Fin k0_t3_loop.trips) : ClosedOff (k0_off49 k) := ⟨![(Ring.sl 34 (k.val + 128)).val, 256, 0], k0_off49_eq k⟩
instance (k : Fin k0_t3_loop.trips) : ClosedOff (k0_off50 k) := ⟨![(Ring.sl 3 k.val).val, 256, 0], k0_off50_eq k⟩
instance (k : Fin k0_t3_loop.trips) : ClosedOff (k0_off51 k) := ⟨![(Ring.sl 34 (k.val + 128)).val, 256, 256], k0_off51_eq k⟩
instance (k : Fin k0_t3_loop.trips) : ClosedOff (k0_off52 k) := ⟨![(Ring.sl 3 k.val).val, 256, 128], k0_off52_eq k⟩
instance (k : Fin k0_t3_loop.trips) : ClosedOff (k0_off53 k) := ⟨![(Ring.sl 34 (k.val + 128)).val, 256, 512], k0_off53_eq k⟩
instance (k : Fin k0_t3_loop.trips) : ClosedOff (k0_off54 k) := ⟨![(Ring.sl 3 k.val).val, 256, 256], k0_off54_eq k⟩
instance (k : Fin k0_t3_loop.trips) : ClosedOff (k0_off55 k) := ⟨![(Ring.sl 34 (k.val + 128)).val, 256, 768], k0_off55_eq k⟩
instance (k : Fin k0_t3_loop.trips) : ClosedOff (k0_off56 k) := ⟨![(Ring.sl 3 k.val).val, 256, 384], k0_off56_eq k⟩
instance (k : Fin k0_t3_loop.trips) : ClosedOff (k0_off57 k) := ⟨![(Ring.sl 34 (k.val + 128)).val, 256, 1024], k0_off57_eq k⟩
instance (k : Fin k0_t3_loop.trips) : ClosedOff (k0_off58 k) := ⟨![(Ring.sl 3 k.val).val, 256, 512], k0_off58_eq k⟩
instance (k : Fin k0_t3_loop.trips) : ClosedOff (k0_off38 k) := ⟨![(Ring.sl 3 k.val).val, 0, 0], k0_off38_eq k⟩

end Cert.KernelIdeal.Hand
-- ==== Proof.Ideal.Pieces.lean ====
/-
  The resources the kernel's loops carry from one step to the next: a tile of the array read, a slot of a buffer, a
  semaphore cell, a transfer under way; and families of them numbered by step, taken apart and put back one at a time.
-/
module

public import proofs.«01_k».proof.Proof.Ideal.Names
public import Idealize.ShloMosaic.Lib.Pointwise

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the launch's beside the counters the kernel's own transfers ride on. -/
abbrev UU (nD : Nat) (τ : Topo) : Type := UR sig nD τ × Counters
local notation "𝕄" => MT nD τ sig Unit (Elt F) ℕ (UU nD τ) ℕ
/-- No loop needs a variant. -/
abbrev 𝒱₀ : Variants := Variants.none

/-! ## Families numbered by step -/

section Fam
variable {M : Type _} [URA M] (Φ : ℕ → sProp M)

/-- The family over `a … b - 1`. -/
abbrev fam (a b : ℕ) : sProp M := bigSep (Finset.Ico a b) Φ

/-- The first member of a family taken out. -/
theorem fam_take {a b : ℕ} (h : a < b) : fam Φ a b = iprop(Φ a ∗ fam Φ (a + 1) b) := by
  have e : Finset.Ico a b = insert a (Finset.Ico (a + 1) b) := by ext x; simp only [Finset.mem_Ico, Finset.mem_insert]; omega
  show bigSep _ _ = _
  rw [e, bigSep_insert (by simp)]; rfl
/-- A member added at the end of a family. -/
theorem fam_put {a b : ℕ} (h : a ≤ b) : fam Φ a (b + 1) = iprop(Φ b ∗ fam Φ a b) := by
  have e : Finset.Ico a (b + 1) = insert b (Finset.Ico a b) := by ext x; simp only [Finset.mem_Ico, Finset.mem_insert]; omega
  show bigSep _ _ = _
  rw [e, bigSep_insert (by simp)]; rfl
/-- An empty stretch of a family is nothing. -/
theorem fam_nil {a b : ℕ} (h : b ≤ a) : fam Φ a b = (BI.emp : sProp M) := by
  show bigSep _ _ = _
  rw [Finset.Ico_eq_empty (by omega), bigSep_empty]
/-- A family over the first `n` numbers as a stretch. -/
theorem fam_fin (n : ℕ) [NeZero n] (Ψ : Fin n → sProp M) : bigSep Finset.univ Ψ = fam (fun k => Ψ (Fin.ofNat n k)) 0 n := by
  have e : (Finset.Ico 0 n).image (fun k => (Fin.ofNat n k : Fin n)) = Finset.univ := by
    ext x; simp only [Finset.mem_image, Finset.mem_Ico, Finset.mem_univ, iff_true]
    exact ⟨x.val, ⟨by omega, x.isLt⟩, Fin.ext (Nat.mod_eq_of_lt x.isLt)⟩
  rw [← e]
  refine bigSep_image_of_injOn ?_ Ψ
  intro x hx y hy hxy
  have hx' := (Finset.mem_Ico.mp hx).2; have hy' := (Finset.mem_Ico.mp hy).2
  have := congrArg Fin.val hxy
  simpa [Fin.ofNat, Nat.mod_eq_of_lt hx', Nat.mod_eq_of_lt hy'] using this
end Fam

/-! ## The pieces -/

section Pieces
variable (c : Dev nD) (X : Buf (Elt F) (xM.view.loc (c : Thread nD τ)))

/-- Ring slot `s` holds tile `b` at contents `f`. -/
def Has (s : Fin 34) (b : ℕ) (f : Buf (Elt F) ((rslot s).view.loc (c : Thread nD τ))) : Prop :=
  (rslot s).view.read (Elt F) f = (xT (Ring.bk 128 b)).view.read (Elt F) X

/-- A ring slot's cell, at zero. -/
abbrev cellP (s : Fin 34) : sProp 𝕄 := semVal ((c : Thread nD τ), SemLoc.dma (inC s).sem) 0
/-- A ring slot, held at contents `f`. -/
abbrev slotP (s : Fin 34) (f : Buf (Elt F) ((rslot s).view.loc (c : Thread nD τ))) : sProp 𝕄 :=
  (rslot s).view.loc (c : Thread nD τ) ↦[(rslot s).view.set]{fullShare} f
/-- Tile `b` of the array read, held. -/
abbrev homeP (b : ℕ) : sProp 𝕄 := (xT (Ring.bk 128 b)).view.loc (c : Thread nD τ) ↦[(xT (Ring.bk 128 b)).view.set]{fullShare} X
/-- Tile `b` under way into slot `s`. -/
abbrev flyP (s : Fin 34) (b : ℕ) (g : Buf (Elt F) ((rslot s).view.loc (c : Thread nD τ))) : sProp 𝕄 :=
  Transfers.Flight countersEmb (c : Thread nD τ) (SemLoc.dma (inC s).sem) () 40960 iprop(slotP c s g ∗ homeP c X b)
/-- A tile on its way into a ring slot. -/
def flightP (s : Fin 34) (b : ℕ) : sProp 𝕄 := iprop(∃ g, ⌜Has c X s b g⌝ ∗ flyP c X s b g)
/-- Slot `n % 34` idle: from number 34 on it holds tile `n - 34`. -/
def idleP (n : ℕ) : sProp 𝕄 := iprop(∃ f, ⌜34 ≤ n → Has c X (Ring.sl 34 n) (n - 34) f⌝ ∗ slotP c (Ring.sl 34 n) f ∗ cellP c (Ring.sl 34 n))

/-- What a tile's transfer leaves in a slot over prior contents `f`. -/
abbrev landed (s : Fin 34) (b : ℕ) (f : Buf (Elt F) ((rslot s).view.loc (c : Thread nD τ))) : Buf (Elt F) ((rslot s).view.loc (c : Thread nD τ)) :=
  (rslot s).view.writes (Elt F) f [⟨Rect.whole S512x1280, ReadAs.same.apply ((xT (Ring.bk 128 b)).view.read (Elt F) X)⟩]
/-- A transfer that ends leaves the tile in the slot. -/
theorem has_landed (s : Fin 34) (b : ℕ) (f : Buf (Elt F) ((rslot s).view.loc (c : Thread nD τ))) : Has c X s b (landed c X s b f) := by
  unfold Has
  funext y
  have h := View.read_writes_cons_emb (rslot s).view f (Rect.whole S512x1280) (ReadAs.same.apply ((xT (Ring.bk 128 b)).view.read (Elt F) X)) [] y
  rw [Rect.emb_whole_apply] at h
  exact h

/-! ## The first loop: the first eight tiles are started -/

/-- What holds before step `k` of the first loop. -/
def inv1 (k : ℕ) : sProp 𝕄 :=
  iprop((∃ W, owes (c : Thread nD τ) 0 W) ∗ fam (homeP c X) k 128
    ∗ fam (fun n => flightP c X (Ring.sl 34 n) n) 0 k ∗ fam (idleP c X) k 34)

set_option warn.classDefReducibility false in
@[sl_loop] def loopInv1 (arg1 : Memref sig .tc .vmem S256x256 .bf16) (harg1 : arg1.IsWhole) (arg2 : Memref sig .tc .vmem S256x256 .bf16) (harg2 : arg2.IsWhole)
    (arg5 : Memref sig .tc .smem S1x1 .f32) (harg5 : arg5.IsWhole) :
    LoopInvTy_k0_t1 (F := F) Unit ℕ (UU nD τ) ℕ 𝒱₀ c none Set.univ xM (Memref.isWhole_whole _) arg1 harg1 arg2 harg2 pkM (Memref.isWhole_whole _) sbM (Memref.isWhole_whole _) arg5 harg5
      ringM (Memref.isWhole_whole _) amaxM (Memref.isWhole_whole _) gmaxM (Memref.isWhole_whole _) rbufM (Memref.isWhole_whole _) opkM (Memref.isWhole_whole _) osbM (Memref.isWhole_whole _) cc0_scratch6 cc0_scratch7 cc0_scratch8 where
  inv k _ := inv1 c X k
  step k _ := by
    have hk := lt1 k
    unfold inv1
    rw [fam_take (homeP c X) (show k.val < 128 by omega), fam_take (idleP c X) (show k.val < 34 by omega), fam_put _ (show 0 ≤ k.val by omega)]
    iintro ⟨⟨%W, HW⟩, ⟨Hh, Hrest⟩, Hfl, ⟨Hid, Hidr⟩⟩
    unfold idleP
    icases Hid with ⟨%f, %hf, Hs, Hc⟩
    sl_unfold [k0_t1_body]
    sl_exec
    sl_step
    isplitl [HW]; · iexists _; iexact HW
    isplitl [Hrest]; · iexact Hrest
    isplitl [Hc Hfl]
    · isplitl [Hc]
      · unfold flightP
        iexists (landed c X (Ring.sl 34 k.val) k.val f)
        isplitr
        · ipureintro; exact has_landed c X _ _ f
        · iexact Hc
      · iexact Hfl
    · iexact Hidr

end Pieces

end Cert.KernelIdeal.Hand
-- ==== Proof.Ideal.Amax.lean ====
/-
  What the first pass computes: a tile's block read from the ring, the largest magnitude of each block of 16 elements,
  and the running maximum; and that one step's stores extend both.
-/
module

public import proofs.«01_k».proof.Proof.Ideal.Pieces

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## What the first pass computes -/

section Values
variable (c : Dev nD) (X : S65536x1280.Idx → Elt F .bf16) (pm : Vec F S256x256 .bf16)

/-- The 256 by 256 block of tile `b` at row block `h` and column block `g`. -/
def xBlk (b h g : ℕ) : Vec F S1x256x256 .bf16 :=
  fun j => X (ix2 (Fin.ofNat 65536 (512 * b + (256 * h + (j 1).val))) (Fin.ofNat 1280 (256 * g + (j 2).val)))
/-- The block maxima of every tile: element `(b, r, l)` is that of row `l` of tile `b`, block `r`. -/
def amaxV : S128x80x512.Idx → Elt F .bf16 :=
  fun y => k0_pay2 (xBlk X (y 0).val ((y 2).val / 256) ((y 1).val / 16)) pm (ix3 0 (Fin.ofNat 16 (y 1).val) (Fin.ofNat 256 (y 2).val))
/-- One tile's step of the running maximum, from its ten blocks. -/
def gmaxStep (G : Vec F S16x256 .f32) (b0 b1 b2 b3 b4 b5 b6 b7 b8 b9 : Vec F S1x256x256 .bf16) : Vec F S16x256 .f32 :=
  k0_pay213 (maximumf (maximumf (maximumf (maximumf (maximumf (maximumf (maximumf (maximumf G
    (k0_pay1 b0 pm)) (k0_pay1 b1 pm)) (k0_pay1 b2 pm)) (k0_pay1 b3 pm)) (k0_pay1 b4 pm)) (k0_pay1 b5 pm)) (k0_pay1 b6 pm)) (k0_pay1 b7 pm))
    (k0_pay1 b8 pm) b9 pm
/-- The running maximum after `t` tiles, from zero. -/
def gmaxV : ℕ → Vec F S16x256 .f32
  | 0 => k0_pay209
  | t + 1 => gmaxStep pm (gmaxV t) (xBlk X t 0 0) (xBlk X t 0 1) (xBlk X t 0 2) (xBlk X t 0 3) (xBlk X t 0 4)
      (xBlk X t 1 0) (xBlk X t 1 1) (xBlk X t 1 2) (xBlk X t 1 3) (xBlk X t 1 4)

/-- A block read through the ring, out of a slot that holds tile `b`. -/
theorem ring_read (s : Fin 34) (b h g : ℕ) (hb : b < 128) (hh : h < 2) (hg : g < 5) (f : Buf (Elt F) ((rslot s).view.loc (c : Thread nD τ)))
    (H : Has c X s b f) {off : Fin 3 → ℕ} (e : off = ![s.val, 256 * h, 256 * g]) (inb : ∀ a, off a + S1x256x256.size a ≤ S34x512x1280.size a) :
    ringM.view.readAt (Elt F) (Rect.unit (s := S34x512x1280) off S1x256x256.size inb).toLoadRect f = xBlk X b h g := by
  subst e
  funext j
  have h1 : (j 1).val < 256 := (j 1).isLt
  have h2 : (j 2).val < 256 := (j 2).isLt
  have h0 : (j 0).val < 1 := (j 0).isLt
  have hb' : (Ring.bk 128 b).val = b := Nat.mod_eq_of_lt hb
  have K := congrFun H (ix2 (⟨256 * h + (j 1).val, by omega⟩ : Fin 512) (⟨256 * g + (j 2).val, by omega⟩ : Fin 1280))
  have e1 : (rslot s).view.read (Elt F) f (ix2 (⟨256 * h + (j 1).val, by omega⟩ : Fin 512) (⟨256 * g + (j 2).val, by omega⟩ : Fin 1280))
      = f (ix3 s (⟨256 * h + (j 1).val, by omega⟩ : Fin 512) (⟨256 * g + (j 2).val, by omega⟩ : Fin 1280)) := by
    show f ((Rect.unit (s := S34x512x1280) (ringOff s) S1x512x1280.size (ringOff_inb s)).emb
      (Shape.reshapeEquiv _ (ix2 (⟨256 * h + (j 1).val, by omega⟩ : Fin 512) (⟨256 * g + (j 2).val, by omega⟩ : Fin 1280)))) = _
    refine congrArg f (Rect.emb_eq_of_coords _ _ _ ?_)
    simp only [reshapeIdx]
    intro a
    fin_cases a <;> simp [ringOff, ix3, ix2]
  have e2 : (xT (Ring.bk 128 b)).view.read (Elt F) X (ix2 (⟨256 * h + (j 1).val, by omega⟩ : Fin 512) (⟨256 * g + (j 2).val, by omega⟩ : Fin 1280))
      = xBlk X b h g j := by
    show X ((Rect.unit (s := S65536x1280) (xOff (Ring.bk 128 b)) S512x1280.size (xOff_inb _)).emb _) = _
    refine congrArg X (Rect.emb_eq_of_coords _ _ _ ?_)
    intro a
    fin_cases a
    · simp [xOff, ix2, hb', Fin.ofNat]; omega
    · simp [xOff, ix2, Fin.ofNat]; omega
  rw [e1, e2] at K
  rw [← K]
  show f ((Rect.unit (s := S34x512x1280) _ S1x256x256.size inb).emb j) = _
  refine congrArg f (Rect.emb_eq_of_coords _ _ _ ?_)
  intro a
  fin_cases a
  · simp [ix3]; omega
  · simp [ix3]
  · simp [ix3]

/-- A store of one block's maxima. -/
abbrev aPc (off : Fin 3 → ℕ) (inb : ∀ a, off a + S1x16x256.size a ≤ S128x80x512.size a) (w : Vec F S1x16x256 .bf16) : View.Piece (Elt F) S128x80x512 .bf16 :=
  ⟨Rect.unit (s := S128x80x512) off S1x16x256.size inb, w⟩
/-- A store of one block's maxima writes what the full array of maxima holds there. -/
theorem aPc_agree (t h g : ℕ) {off : Fin 3 → ℕ} (e : off = ![t, 16 * g, 256 * h]) (inb) (x) :
    (aPc off inb (k0_pay2 (xBlk X t h g) pm)).2 x = amaxV X pm ((aPc (F := F) off inb (k0_pay2 (xBlk X t h g) pm)).1.emb x) := by
  subst e
  have h0 : (x 0).val < 1 := (x 0).isLt
  have h1 : (x 1).val < 16 := (x 1).isLt
  have h2 : (x 2).val < 256 := (x 2).isLt
  have E : ∀ y : S128x80x512.Idx, (y 0).val = t → (y 1).val = 16 * g + (x 1).val → (y 2).val = 256 * h + (x 2).val →
      k0_pay2 (xBlk X t h g) pm x = amaxV X pm y := by
    intro y y0 y1 y2
    unfold amaxV
    rw [y0, show (y 2).val / 256 = h by omega, show (y 1).val / 16 = g by omega]
    refine congrArg _ ?_
    rw [y1, y2]
    funext a
    refine Fin.ext ?_
    fin_cases a
    · show (x 0).val = 0; omega
    · show (x 1).val = (16 * g + (x 1).val) % 16; omega
    · show (x 2).val = (256 * h + (x 2).val) % 256; omega
  refine E _ ?_ ?_ ?_
  · show t + 1 * (x 0).val = t; omega
  · show 16 * g + 1 * (x 1).val = _; omega
  · show 256 * h + 1 * (x 2).val = _; omega
/-- A store for tile `t` leaves the tiles before it alone. -/
theorem aPc_miss (t h g : ℕ) {off : Fin 3 → ℕ} (e : off = ![t, 16 * g, 256 * h]) (inb) (w) (y : S128x80x512.Idx) (hy : (y 0).val < t) :
    y ∉ (aPc (F := F) off inb w).1.set :=
  Rect.not_mem_set_of_axis _ _ 0 t 1 (by subst e; rfl) rfl rfl (Or.inl hy)
/-- A place of tile `t` lies in the store of its own group and half. -/
theorem aPc_mem (t h g : ℕ) {off : Fin 3 → ℕ} (e : off = ![t, 16 * g, 256 * h]) (inb) (w) (y : S128x80x512.Idx) (hy : (y 0).val = t)
    (h1 : (y 1).val / 16 = g) (h2 : (y 2).val / 256 = h) : y ∈ (aPc (F := F) off inb w).1.set := by
  subst e
  refine (Rect.mem_set_unit (inb := inb)).mpr fun a => ?_
  fin_cases a
  · show t ≤ (y 0).val ∧ (y 0).val < t + 1; omega
  · show 16 * g ≤ (y 1).val ∧ (y 1).val < 16 * g + 16; omega
  · show 256 * h ≤ (y 2).val ∧ (y 2).val < 256 * h + 256; omega

/-- The rows written so far hold the block maxima. -/
def AmaxOK (t : ℕ) (f : Buf (Elt F) (amaxM.view.loc (c : Thread nD τ))) : Prop :=
  ∀ y : S128x80x512.Idx, (y 0).val < t → amaxM.view.read (Elt F) f y = amaxV X pm y
/-- The running maximum is that of the first `t` tiles. -/
def GmaxOK (t : ℕ) (f : Buf (Elt F) (gmaxM.view.loc (c : Thread nD τ))) : Prop :=
  gmaxM.view.read (Elt F) f = gmaxV X pm t

/-- One step's ten stores of block maxima extend the rows written. -/
theorem amax_next (k : Fin k0_t2_loop.trips) (g : Buf (Elt F) ((rslot (Ring.sl 34 k.val)).view.loc (c : Thread nD τ)))
    (hg : Has c X (Ring.sl 34 k.val) k.val g) (fa : Buf (Elt F) (amaxM.view.loc (c : Thread nD τ))) (hfa : AmaxOK c X pm k.val fa) :
    AmaxOK c X pm (k.val + 1) (amaxM.view.writes (Elt F) fa
     [aPc (k0_off29 k) (k0_off29_inb k) (k0_pay2 (ringM.view.readAt (Elt F) (Rect.unit (s := S34x512x1280) (k0_off28 k) S1x256x256.size (k0_off28_inb k)).toLoadRect g) pm),
      aPc (k0_off27 k) (k0_off27_inb k) (k0_pay2 (ringM.view.readAt (Elt F) (Rect.unit (s := S34x512x1280) (k0_off26 k) S1x256x256.size (k0_off26_inb k)).toLoadRect g) pm),
      aPc (k0_off25 k) (k0_off25_inb k) (k0_pay2 (ringM.view.readAt (Elt F) (Rect.unit (s := S34x512x1280) (k0_off24 k) S1x256x256.size (k0_off24_inb k)).toLoadRect g) pm),
      aPc (k0_off23 k) (k0_off23_inb k) (k0_pay2 (ringM.view.readAt (Elt F) (Rect.unit (s := S34x512x1280) (k0_off22 k) S1x256x256.size (k0_off22_inb k)).toLoadRect g) pm),
      aPc (k0_off21 k) (k0_off21_inb k) (k0_pay2 (ringM.view.readAt (Elt F) (Rect.unit (s := S34x512x1280) (k0_off20 k) S1x256x256.size (k0_off20_inb k)).toLoadRect g) pm),
      aPc (k0_off19 k) (k0_off19_inb k) (k0_pay2 (ringM.view.readAt (Elt F) (Rect.unit (s := S34x512x1280) (k0_off18 k) S1x256x256.size (k0_off18_inb k)).toLoadRect g) pm),
      aPc (k0_off17 k) (k0_off17_inb k) (k0_pay2 (ringM.view.readAt (Elt F) (Rect.unit (s := S34x512x1280) (k0_off16 k) S1x256x256.size (k0_off16_inb k)).toLoadRect g) pm),
      aPc (k0_off15 k) (k0_off15_inb k) (k0_pay2 (ringM.view.readAt (Elt F) (Rect.unit (s := S34x512x1280) (k0_off14 k) S1x256x256.size (k0_off14_inb k)).toLoadRect g) pm),
      aPc (k0_off13 k) (k0_off13_inb k) (k0_pay2 (ringM.view.readAt (Elt F) (Rect.unit (s := S34x512x1280) (k0_off12 k) S1x256x256.size (k0_off12_inb k)).toLoadRect g) pm),
      aPc (k0_off11 k) (k0_off11_inb k) (k0_pay2 (ringM.view.readAt (Elt F) (Rect.unit (s := S34x512x1280) (k0_off10 k) S1x256x256.size (k0_off10_inb k)).toLoadRect g) pm)]) := by
  rw [ring_read c X (Ring.sl 34 k.val) k.val 0 0 (lt2 k) (by omega) (by omega) g hg (k0_off10_eq k) (k0_off10_inb k),
    ring_read c X (Ring.sl 34 k.val) k.val 0 1 (lt2 k) (by omega) (by omega) g hg (k0_off12_eq k) (k0_off12_inb k),
    ring_read c X (Ring.sl 34 k.val) k.val 0 2 (lt2 k) (by omega) (by omega) g hg (k0_off14_eq k) (k0_off14_inb k),
    ring_read c X (Ring.sl 34 k.val) k.val 0 3 (lt2 k) (by omega) (by omega) g hg (k0_off16_eq k) (k0_off16_inb k),
    ring_read c X (Ring.sl 34 k.val) k.val 0 4 (lt2 k) (by omega) (by omega) g hg (k0_off18_eq k) (k0_off18_inb k),
    ring_read c X (Ring.sl 34 k.val) k.val 1 0 (lt2 k) (by omega) (by omega) g hg (k0_off20_eq k) (k0_off20_inb k),
    ring_read c X (Ring.sl 34 k.val) k.val 1 1 (lt2 k) (by omega) (by omega) g hg (k0_off22_eq k) (k0_off22_inb k),
    ring_read c X (Ring.sl 34 k.val) k.val 1 2 (lt2 k) (by omega) (by omega) g hg (k0_off24_eq k) (k0_off24_inb k),
    ring_read c X (Ring.sl 34 k.val) k.val 1 3 (lt2 k) (by omega) (by omega) g hg (k0_off26_eq k) (k0_off26_inb k),
    ring_read c X (Ring.sl 34 k.val) k.val 1 4 (lt2 k) (by omega) (by omega) g hg (k0_off28_eq k) (k0_off28_inb k)]
  intro y hy
  rcases Nat.lt_succ_iff_lt_or_eq.mp hy with hlt | heq
  · rw [View.read_writes_apply_of_forall_not_mem, hfa y hlt]
    intro p hp
    simp only [List.mem_cons, List.not_mem_nil, or_false] at hp
    rcases hp with rfl | rfl | rfl | rfl | rfl | rfl | rfl | rfl | rfl | rfl
    · exact aPc_miss k.val 1 4 (k0_off29_eq k) (k0_off29_inb k) _ y hlt
    · exact aPc_miss k.val 1 3 (k0_off27_eq k) (k0_off27_inb k) _ y hlt
    · exact aPc_miss k.val 1 2 (k0_off25_eq k) (k0_off25_inb k) _ y hlt
    · exact aPc_miss k.val 1 1 (k0_off23_eq k) (k0_off23_inb k) _ y hlt
    · exact aPc_miss k.val 1 0 (k0_off21_eq k) (k0_off21_inb k) _ y hlt
    · exact aPc_miss k.val 0 4 (k0_off19_eq k) (k0_off19_inb k) _ y hlt
    · exact aPc_miss k.val 0 3 (k0_off17_eq k) (k0_off17_inb k) _ y hlt
    · exact aPc_miss k.val 0 2 (k0_off15_eq k) (k0_off15_inb k) _ y hlt
    · exact aPc_miss k.val 0 1 (k0_off13_eq k) (k0_off13_inb k) _ y hlt
    · exact aPc_miss k.val 0 0 (k0_off11_eq k) (k0_off11_inb k) _ y hlt
  · refine View.read_writes_apply_of_pieces _ _ (amaxV X pm) _ ?_ y ?_
    · intro p hp x
      simp only [List.mem_cons, List.not_mem_nil, or_false] at hp
      rcases hp with rfl | rfl | rfl | rfl | rfl | rfl | rfl | rfl | rfl | rfl
      · exact aPc_agree X pm k.val 1 4 (k0_off29_eq k) (k0_off29_inb k) x
      · exact aPc_agree X pm k.val 1 3 (k0_off27_eq k) (k0_off27_inb k) x
      · exact aPc_agree X pm k.val 1 2 (k0_off25_eq k) (k0_off25_inb k) x
      · exact aPc_agree X pm k.val 1 1 (k0_off23_eq k) (k0_off23_inb k) x
      · exact aPc_agree X pm k.val 1 0 (k0_off21_eq k) (k0_off21_inb k) x
      · exact aPc_agree X pm k.val 0 4 (k0_off19_eq k) (k0_off19_inb k) x
      · exact aPc_agree X pm k.val 0 3 (k0_off17_eq k) (k0_off17_inb k) x
      · exact aPc_agree X pm k.val 0 2 (k0_off15_eq k) (k0_off15_inb k) x
      · exact aPc_agree X pm k.val 0 1 (k0_off13_eq k) (k0_off13_inb k) x
      · exact aPc_agree X pm k.val 0 0 (k0_off11_eq k) (k0_off11_inb k) x
    · have hd1 : (y 1).val < 80 := (y 1).isLt
      have hd2 : (y 2).val < 512 := (y 2).isLt
      have hgc : (y 1).val / 16 = 0 ∨ (y 1).val / 16 = 1 ∨ (y 1).val / 16 = 2 ∨ (y 1).val / 16 = 3 ∨ (y 1).val / 16 = 4 := by omega
      have hhc : (y 2).val / 256 = 0 ∨ (y 2).val / 256 = 1 := by omega
      rcases hhc with h2 | h2 <;> rcases hgc with h1 | h1 | h1 | h1 | h1
      · exact ⟨_, List.mem_iff_getElem.mpr ⟨9, by simp, rfl⟩, aPc_mem k.val 0 0 (k0_off11_eq k) (k0_off11_inb k) _ y heq h1 h2⟩
      · exact ⟨_, List.mem_iff_getElem.mpr ⟨8, by simp, rfl⟩, aPc_mem k.val 0 1 (k0_off13_eq k) (k0_off13_inb k) _ y heq h1 h2⟩
      · exact ⟨_, List.mem_iff_getElem.mpr ⟨7, by simp, rfl⟩, aPc_mem k.val 0 2 (k0_off15_eq k) (k0_off15_inb k) _ y heq h1 h2⟩
      · exact ⟨_, List.mem_iff_getElem.mpr ⟨6, by simp, rfl⟩, aPc_mem k.val 0 3 (k0_off17_eq k) (k0_off17_inb k) _ y heq h1 h2⟩
      · exact ⟨_, List.mem_iff_getElem.mpr ⟨5, by simp, rfl⟩, aPc_mem k.val 0 4 (k0_off19_eq k) (k0_off19_inb k) _ y heq h1 h2⟩
      · exact ⟨_, List.mem_iff_getElem.mpr ⟨4, by simp, rfl⟩, aPc_mem k.val 1 0 (k0_off21_eq k) (k0_off21_inb k) _ y heq h1 h2⟩
      · exact ⟨_, List.mem_iff_getElem.mpr ⟨3, by simp, rfl⟩, aPc_mem k.val 1 1 (k0_off23_eq k) (k0_off23_inb k) _ y heq h1 h2⟩
      · exact ⟨_, List.mem_iff_getElem.mpr ⟨2, by simp, rfl⟩, aPc_mem k.val 1 2 (k0_off25_eq k) (k0_off25_inb k) _ y heq h1 h2⟩
      · exact ⟨_, List.mem_iff_getElem.mpr ⟨1, by simp, rfl⟩, aPc_mem k.val 1 3 (k0_off27_eq k) (k0_off27_inb k) _ y heq h1 h2⟩
      · exact ⟨_, List.mem_iff_getElem.mpr ⟨0, by simp, rfl⟩, aPc_mem k.val 1 4 (k0_off29_eq k) (k0_off29_inb k) _ y heq h1 h2⟩

/-- One step's store of the running maximum takes it to the next tile. -/
theorem gmax_next (k : Fin k0_t2_loop.trips) (g : Buf (Elt F) ((rslot (Ring.sl 34 k.val)).view.loc (c : Thread nD τ)))
    (hg : Has c X (Ring.sl 34 k.val) k.val g) (fg : Buf (Elt F) (gmaxM.view.loc (c : Thread nD τ))) (hfg : GmaxOK c X pm k.val fg) :
    GmaxOK c X pm (k.val + 1) (gmaxM.view.writes (Elt F) fg
     [⟨Rect.unit (s := S16x256) ![0, 0] S16x256.size inb_S16x256_S16x256_0_0, gmaxStep pm (gmaxM.view.readAt (Elt F) (Rect.unit (s := S16x256) ![0, 0] S16x256.size inb_S16x256_S16x256_0_0).toLoadRect fg)
      (ringM.view.readAt (Elt F) (Rect.unit (s := S34x512x1280) (k0_off10 k) S1x256x256.size (k0_off10_inb k)).toLoadRect g)
      (ringM.view.readAt (Elt F) (Rect.unit (s := S34x512x1280) (k0_off12 k) S1x256x256.size (k0_off12_inb k)).toLoadRect g)
      (ringM.view.readAt (Elt F) (Rect.unit (s := S34x512x1280) (k0_off14 k) S1x256x256.size (k0_off14_inb k)).toLoadRect g)
      (ringM.view.readAt (Elt F) (Rect.unit (s := S34x512x1280) (k0_off16 k) S1x256x256.size (k0_off16_inb k)).toLoadRect g)
      (ringM.view.readAt (Elt F) (Rect.unit (s := S34x512x1280) (k0_off18 k) S1x256x256.size (k0_off18_inb k)).toLoadRect g)
      (ringM.view.readAt (Elt F) (Rect.unit (s := S34x512x1280) (k0_off20 k) S1x256x256.size (k0_off20_inb k)).toLoadRect g)
      (ringM.view.readAt (Elt F) (Rect.unit (s := S34x512x1280) (k0_off22 k) S1x256x256.size (k0_off22_inb k)).toLoadRect g)
      (ringM.view.readAt (Elt F) (Rect.unit (s := S34x512x1280) (k0_off24 k) S1x256x256.size (k0_off24_inb k)).toLoadRect g)
      (ringM.view.readAt (Elt F) (Rect.unit (s := S34x512x1280) (k0_off26 k) S1x256x256.size (k0_off26_inb k)).toLoadRect g)
      (ringM.view.readAt (Elt F) (Rect.unit (s := S34x512x1280) (k0_off28 k) S1x256x256.size (k0_off28_inb k)).toLoadRect g)⟩]) := by
  rw [ring_read c X (Ring.sl 34 k.val) k.val 0 0 (lt2 k) (by omega) (by omega) g hg (k0_off10_eq k) (k0_off10_inb k),
    ring_read c X (Ring.sl 34 k.val) k.val 0 1 (lt2 k) (by omega) (by omega) g hg (k0_off12_eq k) (k0_off12_inb k),
    ring_read c X (Ring.sl 34 k.val) k.val 0 2 (lt2 k) (by omega) (by omega) g hg (k0_off14_eq k) (k0_off14_inb k),
    ring_read c X (Ring.sl 34 k.val) k.val 0 3 (lt2 k) (by omega) (by omega) g hg (k0_off16_eq k) (k0_off16_inb k),
    ring_read c X (Ring.sl 34 k.val) k.val 0 4 (lt2 k) (by omega) (by omega) g hg (k0_off18_eq k) (k0_off18_inb k),
    ring_read c X (Ring.sl 34 k.val) k.val 1 0 (lt2 k) (by omega) (by omega) g hg (k0_off20_eq k) (k0_off20_inb k),
    ring_read c X (Ring.sl 34 k.val) k.val 1 1 (lt2 k) (by omega) (by omega) g hg (k0_off22_eq k) (k0_off22_inb k),
    ring_read c X (Ring.sl 34 k.val) k.val 1 2 (lt2 k) (by omega) (by omega) g hg (k0_off24_eq k) (k0_off24_inb k),
    ring_read c X (Ring.sl 34 k.val) k.val 1 3 (lt2 k) (by omega) (by omega) g hg (k0_off26_eq k) (k0_off26_inb k),
    ring_read c X (Ring.sl 34 k.val) k.val 1 4 (lt2 k) (by omega) (by omega) g hg (k0_off28_eq k) (k0_off28_inb k)]
  have e0 : gmaxM.view.readAt (Elt F) (Rect.unit (s := S16x256) ![0, 0] S16x256.size inb_S16x256_S16x256_0_0).toLoadRect fg = gmaxV X pm k.val := by
    rw [← hfg]; funext j
    show gmaxM.view.read (Elt F) fg ((Rect.unit (s := S16x256) ![0, 0] S16x256.size inb_S16x256_S16x256_0_0).emb j) = _
    exact congrArg _ (Rect.emb_eq_of_coords _ _ _ fun a => by fin_cases a <;> simp)
  rw [e0]
  show gmaxM.view.read (Elt F) _ = gmaxV X pm (k.val + 1)
  funext y
  have h := View.read_writes_cons_emb gmaxM.view fg (Rect.unit (s := S16x256) ![0, 0] S16x256.size inb_S16x256_S16x256_0_0) (gmaxV X pm (k.val + 1)) [] y
  rw [show (Rect.unit (s := S16x256) ![0, 0] S16x256.size inb_S16x256_S16x256_0_0).emb y = y from Rect.emb_eq_of_coords _ _ _ fun a => by fin_cases a <;> simp] at h
  exact h
end Values

end Cert.KernelIdeal.Hand
-- ==== Proof.Ideal.Loop2.lean ====
/-
  The first pass over the array: while tile `t + 8` is started, tile `t` is waited for, and the largest magnitude of
  each block of 16 and of the whole tile are recorded.
-/
module

public import proofs.«01_k».proof.Proof.Ideal.Amax

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Pass
variable (c : Dev nD) (X : Buf (Elt F) (xM.view.loc (c : Thread nD τ)))
  (arg1 : Memref sig .tc .vmem S256x256 .bf16) (harg1 : arg1.IsWhole) (arg2 : Memref sig .tc .vmem S256x256 .bf16) (harg2 : arg2.IsWhole)
  (arg5 : Memref sig .tc .smem S1x1 .f32) (harg5 : arg5.IsWhole)
  (g1 : Buf (Elt F) (arg1.view.loc (c : Thread nD τ)))

/-- A 256 by 256 table as a staging buffer at `g` reads. -/
abbrev tbl (m : Memref sig .tc .vmem S256x256 .bf16) (g : Buf (Elt F) (m.view.loc (c : Thread nD τ))) : Vec F S256x256 .bf16 :=
  m.view.readAt (Elt F) (Rect.unit (s := S256x256) ![0, 0] S256x256.size inb_S256x256_S256x256_0_0).toLoadRect g
/-- A whole buffer held at contents `g`. -/
abbrev bufP {sp : Space} {s : Shape} {e : EltTy} (m : Memref sig .tc sp s e) (g : Buf (Elt F) (m.view.loc (c : Thread nD τ))) : sProp 𝕄 :=
  m.view.loc (c : Thread nD τ) ↦[m.view.set]{fullShare} g

/-- Before step `k`: rows of maxima below `k` are written, tiles below `k` are resident, up to eight are under way. -/
def inv2 (k : ℕ) : sProp 𝕄 :=
  iprop((∃ W, owes (c : Thread nD τ) 0 W) ∗ bufP c arg1 g1
    ∗ (∃ f, ⌜AmaxOK c X (tbl c arg1 g1) k f⌝ ∗ bufP c amaxM f) ∗ (∃ f, ⌜GmaxOK c X (tbl c arg1 g1) k f⌝ ∗ bufP c gmaxM f)
    ∗ fam (homeP c X) 0 k ∗ fam (homeP c X) (min (k + 8) 128) 128
    ∗ fam (fun n => flightP c X (Ring.sl 34 n) n) k (min (k + 8) 128) ∗ fam (idleP c X) (min (k + 8) 128) (k + 34))

/-- One step of the second loop. -/
abbrev body2 (k : Fin k0_t2_loop.trips) : Prog (TpuEff nD τ sig (Elt F) Λ₀ .tc) Unit :=
  k0_t2_body (F := F) xM (Memref.isWhole_whole _) arg1 harg1 arg2 harg2 pkM (Memref.isWhole_whole _) sbM (Memref.isWhole_whole _) arg5 harg5
      ringM (Memref.isWhole_whole _) amaxM (Memref.isWhole_whole _) gmaxM (Memref.isWhole_whole _) rbufM (Memref.isWhole_whole _) opkM (Memref.isWhole_whole _) osbM (Memref.isWhole_whole _) cc0_scratch6 cc0_scratch7 cc0_scratch8 k ()

/-- A slot that held tile `n` counts as idle under the number it is next used at. -/
theorem has_next (n : ℕ) (g : Buf (Elt F) ((rslot (Ring.sl 34 n)).view.loc (c : Thread nD τ))) (hg : Has c X (Ring.sl 34 n) n g) :
    iprop(slotP c (Ring.sl 34 n) g ∗ cellP c (Ring.sl 34 n)) ⊢ (idleP c X (n + 34) : sProp 𝕄) := by
  have e : Ring.sl 34 (n + 34) = Ring.sl 34 n := Fin.ext (Nat.add_mod_right n 34)
  unfold idleP
  rw [e, Nat.add_sub_cancel]
  iintro ⟨H1, H2⟩
  iexists g
  isplitr; · ipureintro; exact fun _ => hg
  isplitl [H1]; · iexact H1
  iexact H2

set_option maxHeartbeats 1000000 in
/-- A step of the second loop that also starts a transfer. -/
theorem trip2a (k : Fin k0_t2_loop.trips) (hk8 : k.val + 8 < 128) :
    inv2 c X arg1 g1 k.val ⊢ wp frame (wpE (defs₀ (F := F)) 𝒱₀ (c : Thread nD τ) none) Set.univ (body2 arg1 harg1 arg2 harg2 arg5 harg5 k)
        (fun _ => inv2 c X arg1 g1 (k.val + 1)) := by
  have hc : k0_cond1 k = 1#1 := (cond1_iff k).mpr hk8
  unfold inv2
  rw [show min (k.val + 8) 128 = k.val + 8 by omega, show min (k.val + 1 + 8) 128 = k.val + 8 + 1 by omega,
    show k.val + 1 + 34 = k.val + 34 + 1 by omega,
    fam_put (homeP c X) (show 0 ≤ k.val by omega), fam_take (homeP c X) (show k.val + 8 < 128 by omega),
    fam_take (fun n => flightP c X (Ring.sl 34 n) n) (show k.val < k.val + 8 by omega),
    fam_put (fun n => flightP c X (Ring.sl 34 n) n) (show k.val + 1 ≤ k.val + 8 by omega),
    fam_take (idleP c X) (show k.val + 8 < k.val + 34 by omega), fam_put (idleP c X) (show k.val + 8 + 1 ≤ k.val + 34 by omega)]
  iintro ⟨⟨%W, HW⟩, H1, ⟨%fa, %hfa, Ha⟩, ⟨%fg, %hfg, Hg⟩, Hh0, ⟨Hh, Hh1⟩, ⟨Hf, Hfl⟩, ⟨Hi, Hid⟩⟩
  unfold flightP idleP
  icases Hf with ⟨%g, %hg, HF⟩
  icases Hi with ⟨%f, %hf, Hs, Hc⟩
  dsimp only [body2]
  sl_unfold [k0_t2_body]
  sl_exec
  sl_step
  isplitl [HW]; · iexists _; iexact HW
  isplitl [H1]; · iexact H1
  isplitl [Ha]
  · iexists _; isplitr
    rotate_left
    · iexact Ha
    · ipureintro; exact amax_next c X (tbl c arg1 g1) k g hg fa hfa
  isplitl [Hg]
  · iexists _; isplitr
    rotate_left
    · iexact Hg
    · ipureintro; exact gmax_next c X (tbl c arg1 g1) k g hg fg hfg
  isplitl [HF_src Hh0]
  · isplitl [HF_src]; · iexact HF_src
    iexact Hh0
  isplitl [Hh1]; · iexact Hh1
  isplitl [Hc Hfl]
  · isplitl [Hc]
    · iexists (landed c X (Ring.sl 34 (k.val + 8)) (k.val + 8) f)
      isplitr; · ipureintro; exact has_landed c X _ _ f
      iexact Hc
    · iexact Hfl
  isplitl [HF_dst HF]
  · iapply (show _ ⊢ _ from by have h := has_next c X k.val g hg; unfold idleP at h; exact h)
    isplitl [HF_dst]; · iexact HF_dst
    iexact HF
  iexact Hid

set_option maxHeartbeats 1000000 in
/-- A step of the second loop that starts no transfer. -/
theorem trip2b (k : Fin k0_t2_loop.trips) (hk8 : ¬ k.val + 8 < 128) :
    inv2 c X arg1 g1 k.val ⊢ wp frame (wpE (defs₀ (F := F)) 𝒱₀ (c : Thread nD τ) none) Set.univ (body2 arg1 harg1 arg2 harg2 arg5 harg5 k)
        (fun _ => inv2 c X arg1 g1 (k.val + 1)) := by
  have hc : ¬ k0_cond1 k = 1#1 := fun h => hk8 ((cond1_iff k).mp h)
  have hk := lt2 k
  unfold inv2
  rw [show min (k.val + 8) 128 = 128 by omega, show min (k.val + 1 + 8) 128 = 128 by omega,
    show k.val + 1 + 34 = k.val + 34 + 1 by omega,
    fam_put (homeP c X) (show 0 ≤ k.val by omega),
    fam_take (fun n => flightP c X (Ring.sl 34 n) n) (show k.val < 128 by omega),
    fam_put (idleP c X) (show 128 ≤ k.val + 34 by omega)]
  iintro ⟨⟨%W, HW⟩, H1, ⟨%fa, %hfa, Ha⟩, ⟨%fg, %hfg, Hg⟩, Hh0, Hh1, ⟨Hf, Hfl⟩, Hid⟩
  unfold flightP
  icases Hf with ⟨%g, %hg, HF⟩
  dsimp only [body2]
  sl_unfold [k0_t2_body]
  sl_exec
  sl_step
  isplitl [HW]; · iexists _; iexact HW
  isplitl [H1]; · iexact H1
  isplitl [Ha]
  · iexists _; isplitr
    rotate_left
    · iexact Ha
    · ipureintro; exact amax_next c X (tbl c arg1 g1) k g hg fa hfa
  isplitl [Hg]
  · iexists _; isplitr
    rotate_left
    · iexact Hg
    · ipureintro; exact gmax_next c X (tbl c arg1 g1) k g hg fg hfg
  isplitl [HF_src Hh0]
  · isplitl [HF_src]; · iexact HF_src
    iexact Hh0
  isplitl [Hh1]; · iexact Hh1
  isplitl [Hfl]; · iexact Hfl
  isplitl [HF_dst HF]
  · iapply (has_next c X k.val g hg)
    isplitl [HF_dst]; · iexact HF_dst
    iexact HF
  iexact Hid

set_option warn.classDefReducibility false in
@[sl_loop] def loopInv2 : LoopInvTy_k0_t2 (F := F) Unit ℕ (UU nD τ) ℕ 𝒱₀ c none Set.univ xM (Memref.isWhole_whole _) arg1 harg1 arg2 harg2 pkM (Memref.isWhole_whole _) sbM (Memref.isWhole_whole _) arg5 harg5
      ringM (Memref.isWhole_whole _) amaxM (Memref.isWhole_whole _) gmaxM (Memref.isWhole_whole _) rbufM (Memref.isWhole_whole _) opkM (Memref.isWhole_whole _) osbM (Memref.isWhole_whole _) cc0_scratch6 cc0_scratch7 cc0_scratch8 where
  inv k _ := inv2 c X arg1 g1 k
  step k acc := by
    have t : inv2 c X arg1 g1 k.val ⊢ wp frame (wpE (defs₀ (F := F)) 𝒱₀ (c : Thread nD τ) none) Set.univ (body2 arg1 harg1 arg2 harg2 arg5 harg5 k)
        (fun _ => inv2 c X arg1 g1 (k.val + 1)) := by
      rcases lt_or_ge (k.val + 8) 128 with h | h
      · with_reducible exact trip2a c X arg1 harg1 arg2 harg2 arg5 harg5 g1 k h
      · with_reducible exact trip2b c X arg1 harg1 arg2 harg2 arg5 harg5 g1 k (Nat.not_lt.mpr h)
    refine t.trans ?_
    with_reducible exact .rfl

end Pass

end Cert.KernelIdeal.Hand
-- ==== Proof.Ideal.Codes.lean ====
/-
  What the second pass computes for a tile: its scales, the reciprocals of its scales, and its packed codes.
-/
module

public import proofs.«01_k».proof.Proof.Ideal.Loop2

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Values
variable (c : Dev nD) (X : S65536x1280.Idx → Elt F .bf16) (pm eye : Vec F S256x256 .bf16)

/-- The packed codes of one 256 by 256 block from the sixteen rows of reciprocals that scale it. -/
def codeBlk (x : Vec F S1x256x256 .bf16) (r0 r1 r2 r3 r4 r5 r6 r7 r8 r9 r10 r11 r12 r13 r14 r15 : Vec F S1x256 .f32) : Vec F S1x256x128 .i8 :=
  k0_pay49 (k0_pay47 (k0_pay30 eye x) (k0_pay31 eye x r0) (k0_pay32 eye x r1) (k0_pay33 eye x r2) (k0_pay34 eye x r3) (k0_pay35 eye x r4) (k0_pay36 eye x r5) (k0_pay37 (k0_pay30 eye x) r6) (k0_pay38 (k0_pay30 eye x) r7) (k0_pay39 (k0_pay30 eye x) r8) (k0_pay40 (k0_pay30 eye x) r9) (k0_pay41 (k0_pay30 eye x) r10) (k0_pay42 (k0_pay30 eye x) r11) (k0_pay43 (k0_pay30 eye x) r12) (k0_pay44 (k0_pay30 eye x) r13)
    (k0_pay45 r14) (k0_pay46 (k0_pay30 eye x)) r15) k0_pay48

/-- Row `r` of the table of reciprocals, half `h`. -/
def rbRow (R : Vec F S80x512 .f32) (h r : ℕ) : Vec F S1x256 .f32 :=
  fun j => R (ix2 (Fin.ofNat 80 r) (Fin.ofNat 512 (256 * h + (j 1).val)))
/-- The block maxima of tile `t`, as one load reads them. -/
def amRow (t : ℕ) : Vec F S1x80x512 .bf16 := fun j => amaxV X pm (ix3 (Fin.ofNat 128 t) (Fin.ofNat 80 (j 1).val) (Fin.ofNat 512 (j 2).val))
/-- The whole array's maximum in sixteen rows. -/
def gm : Vec F S16x256 .f32 := gmaxV X pm 128
/-- The reciprocals of tile `t`'s effective scales. -/
def rbV (t : ℕ) : Vec F S80x512 .f32 := k0_pay29 (k0_pay28 (k0_pay216 (gm X pm)) (k0_pay217 (gm X pm)) (amRow X pm t))
/-- Tile `t`'s scales. -/
def sbV (t : ℕ) : Vec F S1x80x512 .fp8e4m3 := k0_pay27 (k0_pay217 (gm X pm)) (amRow X pm t)
/-- The codes of the block of tile `t` at row block `h` and column block `g`. -/
def codeV (t h g : ℕ) : Vec F S1x256x128 .i8 :=
  codeBlk eye (xBlk X t h g) (rbRow (rbV X pm t) h (16 * g + 0)) (rbRow (rbV X pm t) h (16 * g + 1)) (rbRow (rbV X pm t) h (16 * g + 2)) (rbRow (rbV X pm t) h (16 * g + 3))
    (rbRow (rbV X pm t) h (16 * g + 4)) (rbRow (rbV X pm t) h (16 * g + 5)) (rbRow (rbV X pm t) h (16 * g + 6)) (rbRow (rbV X pm t) h (16 * g + 7))
    (rbRow (rbV X pm t) h (16 * g + 8)) (rbRow (rbV X pm t) h (16 * g + 9)) (rbRow (rbV X pm t) h (16 * g + 10)) (rbRow (rbV X pm t) h (16 * g + 11))
    (rbRow (rbV X pm t) h (16 * g + 12)) (rbRow (rbV X pm t) h (16 * g + 13)) (rbRow (rbV X pm t) h (16 * g + 14)) (rbRow (rbV X pm t) h (16 * g + 15))
/-- Tile `t`'s packed codes. -/
def pkTile (t : ℕ) : S512x640.Idx → Elt F .i8 :=
  fun y => codeV X pm eye t ((y 0).val / 256) ((y 1).val / 128) (ix3 0 (Fin.ofNat 256 (y 0).val) (Fin.ofNat 128 (y 1).val))
/-- Tile `t`'s scales, without the leading axis. -/
def sbTile (t : ℕ) : S80x512.Idx → Elt F .fp8e4m3 := fun y => sbV X pm t (ix3 0 (y 0) (y 1))
end Values

end Cert.KernelIdeal.Hand
-- ==== Proof.Ideal.Outs.lean ====
/-
  What the second pass carries: result tiles still to write, under way and written, and the slots they leave from.
-/
module

public import proofs.«01_k».proof.Proof.Ideal.Codes

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Pieces
variable (c : Dev nD) (X : Buf (Elt F) (xM.view.loc (c : Thread nD τ))) (pm eye : Vec F S256x256 .bf16)

/-- A packed tile's place and a scale tile's place in the results, held at `g`. -/
abbrev pkP (b : ℕ) (g : Buf (Elt F) ((pkT (Ring.bk 128 b)).view.loc (c : Thread nD τ))) : sProp 𝕄 :=
  (pkT (Ring.bk 128 b)).view.loc (c : Thread nD τ) ↦[(pkT (Ring.bk 128 b)).view.set]{fullShare} g
/-- A tile of the block scales, held at contents `g`. -/
abbrev sbP (b : ℕ) (g : Buf (Elt F) ((sbT (Ring.bk 128 b)).view.loc (c : Thread nD τ))) : sProp 𝕄 :=
  (sbT (Ring.bk 128 b)).view.loc (c : Thread nD τ) ↦[(sbT (Ring.bk 128 b)).view.set]{fullShare} g
/-- A slot of packed tiles, held at contents `f`. -/
abbrev pslP (s : Fin 3) (f : Buf (Elt F) ((pslot s).view.loc (c : Thread nD τ))) : sProp 𝕄 :=
  (pslot s).view.loc (c : Thread nD τ) ↦[(pslot s).view.set]{fullShare} f
/-- A slot of scale tiles, held at contents `f`. -/
abbrev sslP (s : Fin 3) (f : Buf (Elt F) ((sslot s).view.loc (c : Thread nD τ))) : sProp 𝕄 :=
  (sslot s).view.loc (c : Thread nD τ) ↦[(sslot s).view.set]{fullShare} f
/-- A packed slot's cell, at zero. -/
abbrev pcellP (s : Fin 3) : sProp 𝕄 := semVal ((c : Thread nD τ), SemLoc.dma (pkC s).sem) 0
/-- A scale slot's cell, at zero. -/
abbrev scellP (s : Fin 3) : sProp 𝕄 := semVal ((c : Thread nD τ), SemLoc.dma (sbC s).sem) 0

/-- A result tile's place holds the tile computed. -/
def PkOK (b : ℕ) (g : Buf (Elt F) ((pkT (Ring.bk 128 b)).view.loc (c : Thread nD τ))) : Prop :=
  (pkT (Ring.bk 128 b)).view.read (Elt F) g = pkTile X pm eye b
/-- A tile of the block scales holds what was computed of it. -/
def SbOK (b : ℕ) (g : Buf (Elt F) ((sbT (Ring.bk 128 b)).view.loc (c : Thread nD τ))) : Prop :=
  (sbT (Ring.bk 128 b)).view.read (Elt F) g = sbTile X pm b

/-- A packed tile on its way out. -/
abbrev pflyP (s : Fin 3) (b : ℕ) (f : Buf (Elt F) ((pslot s).view.loc (c : Thread nD τ))) (g : Buf (Elt F) ((pkT (Ring.bk 128 b)).view.loc (c : Thread nD τ))) : sProp 𝕄 :=
  Transfers.Flight countersEmb (c : Thread nD τ) (SemLoc.dma (pkC s).sem) () 10240 iprop(pkP c b g ∗ pslP c s f)
/-- A scale tile on its way out. -/
abbrev sflyP (s : Fin 3) (b : ℕ) (f : Buf (Elt F) ((sslot s).view.loc (c : Thread nD τ))) (g : Buf (Elt F) ((sbT (Ring.bk 128 b)).view.loc (c : Thread nD τ))) : sProp 𝕄 :=
  Transfers.Flight countersEmb (c : Thread nD τ) (SemLoc.dma (sbC s).sem) () 1536 iprop(sbP c b g ∗ sslP c s f)

/-- Output `m`'s two tiles under way from slot `m % 3`. -/
def outFly (m : ℕ) : sProp 𝕄 := iprop((∃ f g, ⌜PkOK c X pm eye (tl m) g⌝ ∗ pflyP c (Ring.sl 3 m) (tl m) f g) ∗ (∃ f g, ⌜SbOK c X pm (tl m) g⌝ ∗ sflyP c (Ring.sl 3 m) (tl m) f g))
/-- Slot `m % 3` free. -/
def outFree (m : ℕ) : sProp 𝕄 := iprop((∃ f, pslP c (Ring.sl 3 m) f ∗ pcellP c (Ring.sl 3 m)) ∗ (∃ f, sslP c (Ring.sl 3 m) f ∗ scellP c (Ring.sl 3 m)))
/-- Output `m`'s places, not yet written; and written. -/
def outTodo (m : ℕ) : sProp 𝕄 := iprop((∃ g, pkP c (tl m) g) ∗ (∃ g, sbP c (tl m) g))
/-- Both tiles of step `m` have arrived. -/
def outDone (m : ℕ) : sProp 𝕄 := iprop((∃ g, ⌜PkOK c X pm eye (tl m) g⌝ ∗ pkP c (tl m) g) ∗ (∃ g, ⌜SbOK c X pm (tl m) g⌝ ∗ sbP c (tl m) g))
/-- Ring slot `n % 34`, at any contents. -/
def idleF (n : ℕ) : sProp 𝕄 := iprop(∃ f, slotP c (Ring.sl 34 n) f ∗ cellP c (Ring.sl 34 n))

/-- A whole round later the same slot is in use. -/
theorem sl_next (n m : ℕ) [NeZero n] : Ring.sl n (m + n) = Ring.sl n m := Fin.ext (Nat.add_mod_right m n)

/-- A slot whose tile has left counts as free under the number it is next used at. -/
theorem free_next (m : ℕ) (f : Buf (Elt F) ((pslot (Ring.sl 3 m)).view.loc (c : Thread nD τ))) (f' : Buf (Elt F) ((sslot (Ring.sl 3 m)).view.loc (c : Thread nD τ))) :
    iprop((pslP c (Ring.sl 3 m) f ∗ pcellP c (Ring.sl 3 m)) ∗ (sslP c (Ring.sl 3 m) f' ∗ scellP c (Ring.sl 3 m))) ⊢ (outFree c (m + 3) : sProp 𝕄) := by
  unfold outFree
  rw [sl_next]
  iintro ⟨H1, H2⟩
  isplitl [H1]
  · iexists f; iexact H1
  · iexists f'; iexact H2
/-- Two tiles that hold what was computed are done. -/
theorem done_of (m : ℕ) (g : Buf (Elt F) ((pkT (Ring.bk 128 (tl m))).view.loc (c : Thread nD τ))) (g' : Buf (Elt F) ((sbT (Ring.bk 128 (tl m))).view.loc (c : Thread nD τ)))
    (h : PkOK c X pm eye (tl m) g) (h' : SbOK c X pm (tl m) g') : iprop(pkP c (tl m) g ∗ sbP c (tl m) g') ⊢ (outDone c X pm eye m : sProp 𝕄) := by
  unfold outDone
  iintro ⟨H1, H2⟩
  isplitl [H1]
  · iexists g; isplitr; · ipureintro; exact h
    iexact H1
  · iexists g'; isplitr; · ipureintro; exact h'
    iexact H2

end Pieces

end Cert.KernelIdeal.Hand
-- ==== Proof.Ideal.Tile.lean ====
/-
  What the second pass leaves in a slot for a tile: the stores of one step, read through the slot, are the tile's codes
  and the tile's scales.
-/
module

public import proofs.«01_k».proof.Proof.Ideal.Outs

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Values
variable (c : Dev nD) (X : S65536x1280.Idx → Elt F .bf16) (pm eye : Vec F S256x256 .bf16)

/-- A half row of the reciprocals lies in their buffer. -/
theorem rrow_inb (r h : ℕ) (hr : r < 80) (hh : h < 2) (a : Fin 2) :
    (![r, 256 * h] : Fin 2 → ℕ) a + S1x256.size a ≤ S80x512.size a := by
  fin_cases a
  · show r + 1 ≤ 80; omega
  · show 256 * h + 256 ≤ 512; omega
/-- A row of the table of reciprocals as the body loads it after storing the table. -/
abbrev rrow (R : Vec F S80x512 .f32) (r h : ℕ) (hr : r < 80) (hh : h < 2) : Vec F S1x256 .f32 :=
  rbufM.view.readCov [⟨Rect.unit (s := S80x512) ![0, 0] S80x512.size inb_S80x512_S80x512_0_0, R⟩]
    (Rect.unit (s := S80x512) ![r, 256 * h] S1x256.size (rrow_inb r h hr hh)).toLoadRect
/-- A half row read from the buffer is that row of the reciprocals. -/
theorem rrow_eq (R : Vec F S80x512 .f32) (r h : ℕ) (hr : r < 80) (hh : h < 2) : rrow R r h hr hh = rbRow R h r := by
  funext j
  have hj0 : (j 0).val < 1 := (j 0).isLt
  have hj1 : (j 1).val < 256 := (j 1).isLt
  have e : (Rect.unit (s := S80x512) ![r, 256 * h] S1x256.size (rrow_inb r h hr hh)).emb j
      = (Rect.unit (s := S80x512) ![0, 0] S80x512.size inb_S80x512_S80x512_0_0).emb (ix2 (Fin.ofNat 80 r) (Fin.ofNat 512 (256 * h + (j 1).val))) := by
    funext a
    refine Fin.ext ?_
    fin_cases a
    · show r + 1 * (j 0).val = 0 + 1 * (r % 80); omega
    · show 256 * h + 1 * (j 1).val = 0 + 1 * ((256 * h + (j 1).val) % 512); omega
  have t := View.read_writes_cons_emb (Val := Elt F) rbufM.view rbufM.view.junk (Rect.unit (s := S80x512) ![0, 0] S80x512.size inb_S80x512_S80x512_0_0) R []
    (ix2 (Fin.ofNat 80 r) (Fin.ofNat 512 (256 * h + (j 1).val)))
  rw [← e] at t
  exact t

/-- A block's codes from the table of reciprocals `R` as the body computes them. -/
def codeAt (R : Vec F S80x512 .f32) (g h : ℕ) (hg : g < 5) (hh : h < 2) (x : Vec F S1x256x256 .bf16) : Vec F S1x256x128 .i8 :=
  codeBlk eye x (rrow R (16 * g + 0) h (by omega) (by omega)) (rrow R (16 * g + 1) h (by omega) (by omega)) (rrow R (16 * g + 2) h (by omega) (by omega)) (rrow R (16 * g + 3) h (by omega) (by omega)) (rrow R (16 * g + 4) h (by omega) (by omega)) (rrow R (16 * g + 5) h (by omega) (by omega)) (rrow R (16 * g + 6) h (by omega) (by omega)) (rrow R (16 * g + 7) h (by omega) (by omega)) (rrow R (16 * g + 8) h (by omega) (by omega)) (rrow R (16 * g + 9) h (by omega) (by omega)) (rrow R (16 * g + 10) h (by omega) (by omega)) (rrow R (16 * g + 11) h (by omega) (by omega)) (rrow R (16 * g + 12) h (by omega) (by omega)) (rrow R (16 * g + 13) h (by omega) (by omega)) (rrow R (16 * g + 14) h (by omega) (by omega)) (rrow R (16 * g + 15) h (by omega) (by omega))
/-- A block's codes from its tile's reciprocals are the block's codes. -/
theorem codeAt_eq (t g h : ℕ) (hg : g < 5) (hh : h < 2) :
    codeAt eye (rbV X pm t) g h hg hh (xBlk X t h g) = codeV X pm eye t h g := by
  unfold codeAt codeV
  simp only [rrow_eq]

/-- A store of one block's codes. -/
abbrev pPc (off : Fin 3 → ℕ) (inb : ∀ a, off a + S1x256x128.size a ≤ S3x512x640.size a) (w : Vec F S1x256x128 .i8) : View.Piece (Elt F) S3x512x640 .i8 :=
  ⟨Rect.unit (s := S3x512x640) off S1x256x128.size inb, w⟩
/-- A store of one block's codes writes what the packed tile holds there. -/
theorem pPc_agree (t s h g : ℕ) {off : Fin 3 → ℕ} (e : off = ![s, 256 * h, 128 * g]) (inb) (x) :
    (pPc off inb (codeV X pm eye t h g)).2 x
      = (fun y : S3x512x640.Idx => pkTile X pm eye t (ix2 (y 1) (y 2))) ((pPc (F := F) off inb (codeV X pm eye t h g)).1.emb x) := by
  subst e
  have h0 : (x 0).val < 1 := (x 0).isLt
  have h1 : (x 1).val < 256 := (x 1).isLt
  have h2 : (x 2).val < 128 := (x 2).isLt
  have E : ∀ y : S3x512x640.Idx, (y 1).val = 256 * h + (x 1).val → (y 2).val = 128 * g + (x 2).val →
      codeV X pm eye t h g x = pkTile X pm eye t (ix2 (y 1) (y 2)) := by
    intro y y1 y2
    unfold pkTile
    rw [show ((ix2 (y 1) (y 2) : S512x640.Idx) 0).val / 256 = h by show (y 1).val / 256 = h; omega,
      show ((ix2 (y 1) (y 2) : S512x640.Idx) 1).val / 128 = g by show (y 2).val / 128 = g; omega]
    refine congrArg _ ?_
    funext a
    refine Fin.ext ?_
    fin_cases a
    · show (x 0).val = 0; omega
    · show (x 1).val = (y 1).val % 256; omega
    · show (x 2).val = (y 2).val % 128; omega
  refine E _ ?_ ?_
  · show 256 * h + 1 * (x 1).val = _; omega
  · show 128 * g + 1 * (x 2).val = _; omega
/-- A place of the slot lies in the store of its own group and half. -/
theorem pPc_mem (s h g : ℕ) {off : Fin 3 → ℕ} (e : off = ![s, 256 * h, 128 * g]) (inb) (w) (y : S3x512x640.Idx) (hy : (y 0).val = s)
    (h1 : (y 1).val / 256 = h) (h2 : (y 2).val / 128 = g) : y ∈ (pPc (F := F) off inb w).1.set := by
  subst e
  refine (Rect.mem_set_unit (inb := inb)).mpr fun a => ?_
  fin_cases a
  · show s ≤ (y 0).val ∧ (y 0).val < s + 1; omega
  · show 256 * h ≤ (y 1).val ∧ (y 1).val < 256 * h + 256; omega
  · show 128 * g ≤ (y 2).val ∧ (y 2).val < 128 * g + 128; omega

/-- A slot read is its buffer read inside the slot. -/
theorem pslot_read (s : Fin 3) (f : Buf (Elt F) (opkM.view.loc (c : Thread nD τ))) (y : S512x640.Idx) :
    (pslot s).view.read (Elt F) f y = opkM.view.read (Elt F) f (ix3 s (y 0) (y 1)) := by
  show f ((Rect.unit (s := S3x512x640) (outOff s) S1x512x640.size (opkOff_inb s)).emb (Shape.reshapeEquiv _ y)) = _
  show _ = f (ix3 s (y 0) (y 1))
  refine congrArg f (Rect.emb_eq_of_coords _ _ _ ?_)
  rw [eq_ix2 y]
  simp only [reshapeIdx]
  intro a
  fin_cases a <;> simp [outOff, ix3, ix2]
/-- A slot of scale tiles read is the buffer at that slot. -/
theorem sslot_read (s : Fin 3) (f : Buf (Elt F) (osbM.view.loc (c : Thread nD τ))) (y : S80x512.Idx) :
    (sslot s).view.read (Elt F) f y = osbM.view.read (Elt F) f (ix3 s (y 0) (y 1)) := by
  show f ((Rect.unit (s := S3x80x512) (outOff s) S1x80x512.size (osbOff_inb s)).emb (Shape.reshapeEquiv _ y)) = _
  show _ = f (ix3 s (y 0) (y 1))
  refine congrArg f (Rect.emb_eq_of_coords _ _ _ ?_)
  rw [eq_ix2 y]
  simp only [reshapeIdx]
  intro a
  fin_cases a <;> simp [outOff, ix3, ix2]

/-- One step's ten stores of codes, read through the slot, are the tile's codes. -/
theorem pk_next (k : Fin k0_t3_loop.trips) (g : Buf (Elt F) ((rslot (Ring.sl 34 (k.val + 128))).view.loc (c : Thread nD τ)))
    (hg : Has c X (Ring.sl 34 (k.val + 128)) (tl k.val) g) (fp : Buf (Elt F) (opkM.view.loc (c : Thread nD τ)))
    (R : Vec F S80x512 .f32) (hR : R = rbV X pm (tl k.val)) :
    (pslot (Ring.sl 3 k.val)).view.read (Elt F) (opkM.view.writes (Elt F) fp
     [pPc (k0_off58 k) (k0_off58_inb k) (codeAt eye R 4 1 (by omega) (by omega) (ringM.view.readAt (Elt F) (Rect.unit (s := S34x512x1280) (k0_off57 k) S1x256x256.size (k0_off57_inb k)).toLoadRect g)),
      pPc (k0_off56 k) (k0_off56_inb k) (codeAt eye R 3 1 (by omega) (by omega) (ringM.view.readAt (Elt F) (Rect.unit (s := S34x512x1280) (k0_off55 k) S1x256x256.size (k0_off55_inb k)).toLoadRect g)),
      pPc (k0_off54 k) (k0_off54_inb k) (codeAt eye R 2 1 (by omega) (by omega) (ringM.view.readAt (Elt F) (Rect.unit (s := S34x512x1280) (k0_off53 k) S1x256x256.size (k0_off53_inb k)).toLoadRect g)),
      pPc (k0_off52 k) (k0_off52_inb k) (codeAt eye R 1 1 (by omega) (by omega) (ringM.view.readAt (Elt F) (Rect.unit (s := S34x512x1280) (k0_off51 k) S1x256x256.size (k0_off51_inb k)).toLoadRect g)),
      pPc (k0_off50 k) (k0_off50_inb k) (codeAt eye R 0 1 (by omega) (by omega) (ringM.view.readAt (Elt F) (Rect.unit (s := S34x512x1280) (k0_off49 k) S1x256x256.size (k0_off49_inb k)).toLoadRect g)),
      pPc (k0_off48 k) (k0_off48_inb k) (codeAt eye R 4 0 (by omega) (by omega) (ringM.view.readAt (Elt F) (Rect.unit (s := S34x512x1280) (k0_off47 k) S1x256x256.size (k0_off47_inb k)).toLoadRect g)),
      pPc (k0_off46 k) (k0_off46_inb k) (codeAt eye R 3 0 (by omega) (by omega) (ringM.view.readAt (Elt F) (Rect.unit (s := S34x512x1280) (k0_off45 k) S1x256x256.size (k0_off45_inb k)).toLoadRect g)),
      pPc (k0_off44 k) (k0_off44_inb k) (codeAt eye R 2 0 (by omega) (by omega) (ringM.view.readAt (Elt F) (Rect.unit (s := S34x512x1280) (k0_off43 k) S1x256x256.size (k0_off43_inb k)).toLoadRect g)),
      pPc (k0_off42 k) (k0_off42_inb k) (codeAt eye R 1 0 (by omega) (by omega) (ringM.view.readAt (Elt F) (Rect.unit (s := S34x512x1280) (k0_off41 k) S1x256x256.size (k0_off41_inb k)).toLoadRect g)),
      pPc (k0_off40 k) (k0_off40_inb k) (codeAt eye R 0 0 (by omega) (by omega) (ringM.view.readAt (Elt F) (Rect.unit (s := S34x512x1280) (k0_off39 k) S1x256x256.size (k0_off39_inb k)).toLoadRect g))]) = pkTile X pm eye (tl k.val) := by
  subst hR
  rw [ring_read c X (Ring.sl 34 (k.val + 128)) (tl k.val) 0 0 (tl_lt (lt3 k)) (by omega) (by omega) g hg (k0_off39_eq k) (k0_off39_inb k),
    ring_read c X (Ring.sl 34 (k.val + 128)) (tl k.val) 0 1 (tl_lt (lt3 k)) (by omega) (by omega) g hg (k0_off41_eq k) (k0_off41_inb k),
    ring_read c X (Ring.sl 34 (k.val + 128)) (tl k.val) 0 2 (tl_lt (lt3 k)) (by omega) (by omega) g hg (k0_off43_eq k) (k0_off43_inb k),
    ring_read c X (Ring.sl 34 (k.val + 128)) (tl k.val) 0 3 (tl_lt (lt3 k)) (by omega) (by omega) g hg (k0_off45_eq k) (k0_off45_inb k),
    ring_read c X (Ring.sl 34 (k.val + 128)) (tl k.val) 0 4 (tl_lt (lt3 k)) (by omega) (by omega) g hg (k0_off47_eq k) (k0_off47_inb k),
    ring_read c X (Ring.sl 34 (k.val + 128)) (tl k.val) 1 0 (tl_lt (lt3 k)) (by omega) (by omega) g hg (k0_off49_eq k) (k0_off49_inb k),
    ring_read c X (Ring.sl 34 (k.val + 128)) (tl k.val) 1 1 (tl_lt (lt3 k)) (by omega) (by omega) g hg (k0_off51_eq k) (k0_off51_inb k),
    ring_read c X (Ring.sl 34 (k.val + 128)) (tl k.val) 1 2 (tl_lt (lt3 k)) (by omega) (by omega) g hg (k0_off53_eq k) (k0_off53_inb k),
    ring_read c X (Ring.sl 34 (k.val + 128)) (tl k.val) 1 3 (tl_lt (lt3 k)) (by omega) (by omega) g hg (k0_off55_eq k) (k0_off55_inb k),
    ring_read c X (Ring.sl 34 (k.val + 128)) (tl k.val) 1 4 (tl_lt (lt3 k)) (by omega) (by omega) g hg (k0_off57_eq k) (k0_off57_inb k)]
  simp only [codeAt_eq]
  funext y
  rw [pslot_read c]
  have hd0 : (y 0).val < 512 := (y 0).isLt
  have hd1 : (y 1).val < 640 := (y 1).isLt
  refine (View.read_writes_apply_of_pieces _ _ (fun y : S3x512x640.Idx => pkTile X pm eye (tl k.val) (ix2 (y 1) (y 2))) _ ?_ _ ?_).trans (congrArg _ (eq_ix2 y).symm)
  · intro p hp x
    simp only [List.mem_cons, List.not_mem_nil, or_false] at hp
    rcases hp with rfl | rfl | rfl | rfl | rfl | rfl | rfl | rfl | rfl | rfl
    · exact pPc_agree X pm eye (tl k.val) (Ring.sl 3 k.val).val 1 4 (k0_off58_eq k) (k0_off58_inb k) x
    · exact pPc_agree X pm eye (tl k.val) (Ring.sl 3 k.val).val 1 3 (k0_off56_eq k) (k0_off56_inb k) x
    · exact pPc_agree X pm eye (tl k.val) (Ring.sl 3 k.val).val 1 2 (k0_off54_eq k) (k0_off54_inb k) x
    · exact pPc_agree X pm eye (tl k.val) (Ring.sl 3 k.val).val 1 1 (k0_off52_eq k) (k0_off52_inb k) x
    · exact pPc_agree X pm eye (tl k.val) (Ring.sl 3 k.val).val 1 0 (k0_off50_eq k) (k0_off50_inb k) x
    · exact pPc_agree X pm eye (tl k.val) (Ring.sl 3 k.val).val 0 4 (k0_off48_eq k) (k0_off48_inb k) x
    · exact pPc_agree X pm eye (tl k.val) (Ring.sl 3 k.val).val 0 3 (k0_off46_eq k) (k0_off46_inb k) x
    · exact pPc_agree X pm eye (tl k.val) (Ring.sl 3 k.val).val 0 2 (k0_off44_eq k) (k0_off44_inb k) x
    · exact pPc_agree X pm eye (tl k.val) (Ring.sl 3 k.val).val 0 1 (k0_off42_eq k) (k0_off42_inb k) x
    · exact pPc_agree X pm eye (tl k.val) (Ring.sl 3 k.val).val 0 0 (k0_off40_eq k) (k0_off40_inb k) x
  · have hgc : (y 1).val / 128 = 0 ∨ (y 1).val / 128 = 1 ∨ (y 1).val / 128 = 2 ∨ (y 1).val / 128 = 3 ∨ (y 1).val / 128 = 4 := by omega
    have hhc : (y 0).val / 256 = 0 ∨ (y 0).val / 256 = 1 := by omega
    rcases hhc with h1 | h1 <;> rcases hgc with h2 | h2 | h2 | h2 | h2
    · exact ⟨_, List.mem_iff_getElem.mpr ⟨9, by simp, rfl⟩, pPc_mem (Ring.sl 3 k.val).val 0 0 (k0_off40_eq k) (k0_off40_inb k) _ _ rfl h1 h2⟩
    · exact ⟨_, List.mem_iff_getElem.mpr ⟨8, by simp, rfl⟩, pPc_mem (Ring.sl 3 k.val).val 0 1 (k0_off42_eq k) (k0_off42_inb k) _ _ rfl h1 h2⟩
    · exact ⟨_, List.mem_iff_getElem.mpr ⟨7, by simp, rfl⟩, pPc_mem (Ring.sl 3 k.val).val 0 2 (k0_off44_eq k) (k0_off44_inb k) _ _ rfl h1 h2⟩
    · exact ⟨_, List.mem_iff_getElem.mpr ⟨6, by simp, rfl⟩, pPc_mem (Ring.sl 3 k.val).val 0 3 (k0_off46_eq k) (k0_off46_inb k) _ _ rfl h1 h2⟩
    · exact ⟨_, List.mem_iff_getElem.mpr ⟨5, by simp, rfl⟩, pPc_mem (Ring.sl 3 k.val).val 0 4 (k0_off48_eq k) (k0_off48_inb k) _ _ rfl h1 h2⟩
    · exact ⟨_, List.mem_iff_getElem.mpr ⟨4, by simp, rfl⟩, pPc_mem (Ring.sl 3 k.val).val 1 0 (k0_off50_eq k) (k0_off50_inb k) _ _ rfl h1 h2⟩
    · exact ⟨_, List.mem_iff_getElem.mpr ⟨3, by simp, rfl⟩, pPc_mem (Ring.sl 3 k.val).val 1 1 (k0_off52_eq k) (k0_off52_inb k) _ _ rfl h1 h2⟩
    · exact ⟨_, List.mem_iff_getElem.mpr ⟨2, by simp, rfl⟩, pPc_mem (Ring.sl 3 k.val).val 1 2 (k0_off54_eq k) (k0_off54_inb k) _ _ rfl h1 h2⟩
    · exact ⟨_, List.mem_iff_getElem.mpr ⟨1, by simp, rfl⟩, pPc_mem (Ring.sl 3 k.val).val 1 3 (k0_off56_eq k) (k0_off56_inb k) _ _ rfl h1 h2⟩
    · exact ⟨_, List.mem_iff_getElem.mpr ⟨0, by simp, rfl⟩, pPc_mem (Ring.sl 3 k.val).val 1 4 (k0_off58_eq k) (k0_off58_inb k) _ _ rfl h1 h2⟩

/-- One step's load of its row of block maxima. -/
theorem am_read (k : Fin k0_t3_loop.trips) (fa : Buf (Elt F) (amaxM.view.loc (c : Thread nD τ))) (hfa : AmaxOK c X pm 128 fa) :
    amaxM.view.readAt (Elt F) (Rect.unit (s := S128x80x512) (k0_off37 k) S1x80x512.size (k0_off37_inb k)).toLoadRect fa = amRow X pm (tl k.val) := by
  have hk := tl_lt (lt3 k)
  funext j
  have h0 : (j 0).val < 1 := (j 0).isLt
  have h1 : (j 1).val < 80 := (j 1).isLt
  have h2 : (j 2).val < 512 := (j 2).isLt
  have e : (Rect.unit (s := S128x80x512) (k0_off37 k) S1x80x512.size (k0_off37_inb k)).emb j
      = ix3 (Fin.ofNat 128 (tl k.val)) (Fin.ofNat 80 (j 1).val) (Fin.ofNat 512 (j 2).val) := by
    refine Rect.emb_eq_of_coords _ _ _ fun a => ?_
    have eo := congrFun (off37_eq k) a
    show _ = k0_off37 k a + 1 * _
    rw [eo]
    fin_cases a
    · show tl k.val % 128 = tl k.val + 1 * (j 0).val; omega
    · show (j 1).val % 80 = 0 + 1 * (j 1).val; omega
    · show (j 2).val % 512 = 0 + 1 * (j 2).val; omega
  show amaxM.view.read (Elt F) fa ((Rect.unit (s := S128x80x512) (k0_off37 k) S1x80x512.size (k0_off37_inb k)).emb j) = _
  rw [e]
  exact hfa _ (by show tl k.val % 128 < 128; omega)
/-- One step's store of scales, read through the slot, is the tile's scales. -/
theorem sb_next (k : Fin k0_t3_loop.trips) (fs : Buf (Elt F) (osbM.view.loc (c : Thread nD τ))) (w : Vec F S1x80x512 .fp8e4m3) (hw : w = sbV X pm (tl k.val)) :
    (sslot (Ring.sl 3 k.val)).view.read (Elt F) (osbM.view.writes (Elt F) fs
     [⟨Rect.unit (s := S3x80x512) (k0_off38 k) S1x80x512.size (k0_off38_inb k), w⟩]) = sbTile X pm (tl k.val) := by
  subst hw
  funext y
  rw [sslot_read c]
  have e : (Rect.unit (s := S3x80x512) (k0_off38 k) S1x80x512.size (k0_off38_inb k)).emb (ix3 0 (y 0) (y 1)) = ix3 (Ring.sl 3 k.val) (y 0) (y 1) := by
    refine Rect.emb_eq_of_coords _ _ _ fun a => ?_
    have eo := congrFun (k0_off38_eq k) a
    show _ = k0_off38 k a + 1 * _
    rw [eo]
    fin_cases a
    · show k.val % 3 = k.val % 3 + 1 * 0; omega
    · show (y 0).val = 0 + 1 * (y 0).val; omega
    · show (y 1).val = 0 + 1 * (y 1).val; omega
  exact (congrArg (osbM.view.read (Elt F) _) e.symm).trans (View.read_writes_cons_emb osbM.view fs _ _ [] _)
end Values

section Landed
variable (c : Dev nD) (X : Buf (Elt F) (xM.view.loc (c : Thread nD τ))) (pm eye : Vec F S256x256 .bf16)
/-- A transfer leaves in a result tile's place what the slot read. -/
theorem pk_landed (b : ℕ) (w : S512x640.Idx → Elt F .i8) (hw : w = pkTile X pm eye b) (g : Buf (Elt F) ((pkT (Ring.bk 128 b)).view.loc (c : Thread nD τ))) :
    PkOK c X pm eye b ((pkT (Ring.bk 128 b)).view.writes (Elt F) g [⟨Rect.whole S512x640, ReadAs.same.apply w⟩]) := by
  subst hw
  unfold PkOK
  funext y
  have h := View.read_writes_cons_emb (pkT (Ring.bk 128 b)).view g (Rect.whole S512x640) (ReadAs.same.apply (pkTile X pm eye b)) [] y
  rw [Rect.emb_whole_apply] at h
  exact h
/-- A scale tile that was sent out holds what was computed of it. -/
theorem sb_landed (b : ℕ) (w : S80x512.Idx → Elt F .fp8e4m3) (hw : w = sbTile X pm b) (g : Buf (Elt F) ((sbT (Ring.bk 128 b)).view.loc (c : Thread nD τ))) :
    SbOK c X pm b ((sbT (Ring.bk 128 b)).view.writes (Elt F) g [⟨Rect.whole S80x512, ReadAs.same.apply w⟩]) := by
  subst hw
  unfold SbOK
  funext y
  have h := View.read_writes_cons_emb (sbT (Ring.bk 128 b)).view g (Rect.whole S80x512) (ReadAs.same.apply (sbTile X pm b)) [] y
  rw [Rect.emb_whole_apply] at h
  exact h
end Landed

end Cert.KernelIdeal.Hand
-- ==== Proof.Ideal.Loop3.lean ====
/-
  The second pass over the array: a tile's codes and scales are computed from its slot, sent to the results, and the
  slot is filled again with a tile that is still to come.
-/
module

public import proofs.«01_k».proof.Proof.Ideal.Tile

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Pass2
variable (c : Dev nD) (X : Buf (Elt F) (xM.view.loc (c : Thread nD τ)))
  (arg1 : Memref sig .tc .vmem S256x256 .bf16) (harg1 : arg1.IsWhole) (arg2 : Memref sig .tc .vmem S256x256 .bf16) (harg2 : arg2.IsWhole)
  (arg5 : Memref sig .tc .smem S1x1 .f32) (harg5 : arg5.IsWhole)
  (g2 : Buf (Elt F) (arg2.view.loc (c : Thread nD τ))) (pm : Vec F S256x256 .bf16)

/-- Ring slot `s` idle and holding tile `b`. -/
def residP (s : Fin 34) (b : ℕ) : sProp 𝕄 := iprop(∃ f, ⌜Has c X s b f⌝ ∗ slotP c s f ∗ cellP c s)
/-- Ring entry `n` under way again: it brings tile `n - 162`. -/
def reFly (n : ℕ) : sProp 𝕄 := flightP c X (Ring.sl 34 n) (n - 162)
/-- Output `m`'s tiles under way from slot `s`. -/
def outFlyS (eye : Vec F S256x256 .bf16) (s : Fin 3) (m : ℕ) : sProp 𝕄 :=
  iprop((∃ f g, ⌜PkOK c X pm eye (tl m) g⌝ ∗ pflyP c s (tl m) f g) ∗ (∃ f g, ⌜SbOK c X pm (tl m) g⌝ ∗ sflyP c s (tl m) f g))
/-- The transfers out of step `m`, by the slot they use. -/
theorem outFly_at (eye : Vec F S256x256 .bf16) (m : ℕ) (s : Fin 3) (h : Ring.sl 3 m = s) : outFly c X pm eye m = outFlyS c X pm eye s m := by
  subst h; rfl
/-- Three steps earlier the same output slot was in use. -/
theorem sl_prev (m : ℕ) (h : 3 ≤ m) : Ring.sl 3 (m - 3) = Ring.sl 3 m := by
  have := sl_next 3 (m - 3)
  rw [Nat.sub_add_cancel h] at this
  exact this.symm
/-- Thirty-four steps later the same ring slot is in use. -/
theorem sl_again (k : ℕ) : Ring.sl 34 (k + 162) = Ring.sl 34 (k + 128) := sl_next 34 (k + 128)
/-- In the first 34 steps the step's ring slot holds its tile already. -/
theorem idle_at (k : ℕ) (h : k < 34) : idleP c X (k + 128) = residP c X (Ring.sl 34 (k + 128)) (tl k) := by
  unfold idleP residP tl
  rw [if_pos h, show k + 128 - 34 = 94 + k by omega]
  simp only [show 34 ≤ k + 128 by omega, forall_const]
/-- From step 34 on the step's tile is being transferred into its ring slot. -/
theorem reFly_at (k : ℕ) (h : 34 ≤ k) : reFly c X (k + 128) = flightP c X (Ring.sl 34 (k + 128)) (tl k) := by
  unfold reFly tl
  rw [if_neg (by omega), show k + 128 - 162 = k - 34 by omega]
/-- A transfer of tile `k` into the slot just used, as the later step sees it. -/
theorem reFly_new (k : ℕ) : reFly c X (k + 162) = flightP c X (Ring.sl 34 (k + 128)) k := by
  unfold reFly
  rw [sl_again, Nat.add_sub_cancel]
/-- A ring slot left free, as a later step sees it. -/
theorem idleF_new (k : ℕ) : idleF c (k + 162) = (iprop(∃ f, slotP c (Ring.sl 34 (k + 128)) f ∗ cellP c (Ring.sl 34 (k + 128))) : sProp 𝕄) := by
  unfold idleF
  rw [sl_again]

/-- The step's table of reciprocals and its scales, from its row of block maxima. -/
theorem rb_next (k : Fin k0_t3_loop.trips) (fa : Buf (Elt F) (amaxM.view.loc (c : Thread nD τ))) (hfa : AmaxOK c X pm 128 fa) :
    k0_pay29 (k0_pay28 (k0_pay216 (gm X pm)) (k0_pay217 (gm X pm))
      (amaxM.view.readAt (Elt F) (Rect.unit (s := S128x80x512) (k0_off37 k) S1x80x512.size (k0_off37_inb k)).toLoadRect fa)) = rbV X pm (tl k.val) := by
  rw [am_read c X pm k fa hfa]; rfl
/-- A step computes the block scales of its tile from the stored maxima. -/
theorem sbV_next (k : Fin k0_t3_loop.trips) (fa : Buf (Elt F) (amaxM.view.loc (c : Thread nD τ))) (hfa : AmaxOK c X pm 128 fa) :
    k0_pay27 (k0_pay217 (gm X pm)) (amaxM.view.readAt (Elt F) (Rect.unit (s := S128x80x512) (k0_off37 k) S1x80x512.size (k0_off37_inb k)).toLoadRect fa)
      = sbV X pm (tl k.val) := by
  rw [am_read c X pm k fa hfa]; rfl

/-- Before step `k`: outputs below `k - 3` are written, the last three are under way; tiles below `k - 34` have been
read a second time and are home, tiles from `min k 94` on have not been sent for again. -/
def inv3 (k : ℕ) : sProp 𝕄 :=
  iprop((∃ W, owes (c : Thread nD τ) 0 W) ∗ bufP c arg2 g2 ∗ (∃ f, ⌜AmaxOK c X pm 128 f⌝ ∗ bufP c amaxM f) ∗ (∃ f, bufP c rbufM f)
    ∗ fam (homeP c X) 0 (k - 34) ∗ fam (homeP c X) (min k 94) 128
    ∗ fam (idleP c X) (k + 128) 162 ∗ fam (reFly c X) (max 162 (k + 128)) (min (k + 162) 256) ∗ fam (idleF c) 256 (k + 162)
    ∗ fam (outFly c X pm (tbl c arg2 g2)) (k - 3) k ∗ fam (outFree c) k 3 ∗ fam (outTodo c) k 128 ∗ fam (outDone c X pm (tbl c arg2 g2)) 0 (k - 3))

/-- One step of the third loop. -/
abbrev body3 (v6 : Vec F S16x256 .f32) (k : Fin k0_t3_loop.trips) : Prog (TpuEff nD τ sig (Elt F) Λ₀ .tc) Unit :=
  k0_t3_body (F := F) xM (Memref.isWhole_whole _) arg1 harg1 arg2 harg2 pkM (Memref.isWhole_whole _) sbM (Memref.isWhole_whole _) arg5 harg5
      ringM (Memref.isWhole_whole _) amaxM (Memref.isWhole_whole _) gmaxM (Memref.isWhole_whole _) rbufM (Memref.isWhole_whole _) opkM (Memref.isWhole_whole _) osbM (Memref.isWhole_whole _) cc0_scratch6 cc0_scratch7 cc0_scratch8 v6 k ()

set_option maxHeartbeats 1000000 in
/-- A step whose output slot is new and whose tile is resident. -/
theorem trip3a (k : Fin k0_t3_loop.trips) (h : k.val < 3) :
    inv3 c X arg2 g2 pm k.val ⊢ wp frame (wpE (defs₀ (F := F)) 𝒱₀ (c : Thread nD τ) none) Set.univ (body3 arg1 harg1 arg2 harg2 arg5 harg5 (gm X pm) k)
        (fun _ => inv3 c X arg2 g2 pm (k.val + 1)) := by
  have hk := lt3 k
  have c2 : ¬ k0_cond2 k = 1#1 := fun h => absurd ((cond2_iff k).mp h) (by omega)
  have c3 : ¬ k0_cond3 k = 1#1 := fun h => absurd ((cond3_iff k).mp h) (by omega)
  have c4 : k0_cond4 k = 1#1 := (cond4_iff k).mpr (by omega)
  unfold inv3
  rw [show k.val + 1 + 128 = k.val + 128 + 1 by ring, show k.val + 1 + 162 = k.val + 162 + 1 by ring,
    fam_take (outTodo c) (show k.val < 128 by omega),
    show k.val + 1 - 3 = k.val - 3 by omega, fam_put (outFly c X pm (tbl c arg2 g2)) (show k.val - 3 ≤ k.val by omega), fam_take (outFree c) (show k.val < 3 by omega),
    show k.val + 1 - 34 = k.val - 34 by omega, show max 162 (k.val + 128 + 1) = max 162 (k.val + 128) by omega,
    fam_take (idleP c X) (show k.val + 128 < 162 by omega), idle_at c X k.val (by omega),
    show min (k.val + 162 + 1) 256 = k.val + 162 + 1 by omega, show min (k.val + 162) 256 = k.val + 162 by omega, show min (k.val + 1) 94 = k.val + 1 by omega, show min k.val 94 = k.val by omega,
    fam_take (homeP c X) (show k.val < 128 by omega), fam_put (reFly c X) (show max 162 (k.val + 128) ≤ k.val + 162 by omega), reFly_new c X k.val,
    fam_nil (idleF c) (show k.val + 162 ≤ 256 by omega), fam_nil (idleF c) (show k.val + 162 + 1 ≤ 256 by omega)]
  iintro ⟨⟨%W, HW⟩, H2, ⟨%fa, %hfa, Ha⟩, ⟨%fr, Hr⟩, Hh0, ⟨Hh, Hh1⟩, ⟨Hi, Hid⟩, Hfl, Hfr, Hof, ⟨Ho, Hoe⟩, ⟨Ht, Hot⟩, Hdn⟩
  unfold outTodo
  icases Ht with ⟨⟨%gp', Hp⟩, ⟨%gs', Hs⟩⟩
  unfold outFree
  icases Ho with ⟨⟨%fp, Hps, HP⟩, ⟨%fs, Hss, HS⟩⟩
  unfold residP
  icases Hi with ⟨%g, %hg, Hsl, HF⟩
  dsimp only [body3]
  sl_unfold [k0_t3_body]
  sl_exec
  sl_step
  isplitl [HW]; · iexists _; iexact HW
  isplitl [H2]; · iexact H2
  isplitl [Ha]
  · iexists fa; isplitr; · ipureintro; exact hfa
    iexact Ha
  isplitl [Hr]; · iexists _; iexact Hr
  isplitl [Hh0]; · iexact Hh0
  isplitl [Hh1]; · iexact Hh1
  isplitl [Hid]; · iexact Hid
  unfold flightP
  isplitl [HF Hfl]
  · isplitl [HF]
    · iexists (landed c X (Ring.sl 34 (k.val + 128)) k.val g)
      isplitr; · ipureintro; exact has_landed c X _ _ g
      iexact HF
    · iexact Hfl
  isplitl [Hfr]; · iexact Hfr
  isplitl [HP HS Hof]
  · isplitl [HP HS]
    · unfold outFly
      isplitl [HP]
      · iexists _, _; isplitr
        rotate_left
        · iexact HP
        · ipureintro; exact pk_landed c X pm (tbl c arg2 g2) (tl k.val) _ (pk_next c X pm (tbl c arg2 g2) k g hg fp _ (rb_next c X pm k fa hfa)) gp'
      · iexists _, _; isplitr
        rotate_left
        · iexact HS
        · ipureintro; exact sb_landed c X pm (tl k.val) _ (sb_next c X pm k fs _ (sbV_next c X pm k fa hfa)) gs'
    · iexact Hof
  isplitl [Hoe]; · iexact Hoe
  isplitl [Hot]; · iexact Hot
  iexact Hdn

set_option maxHeartbeats 1000000 in
/-- A step whose output slot is reused and whose tile is resident. -/
theorem trip3b (k : Fin k0_t3_loop.trips) (h : 3 ≤ k.val) (h' : k.val < 34) :
    inv3 c X arg2 g2 pm k.val ⊢ wp frame (wpE (defs₀ (F := F)) 𝒱₀ (c : Thread nD τ) none) Set.univ (body3 arg1 harg1 arg2 harg2 arg5 harg5 (gm X pm) k)
        (fun _ => inv3 c X arg2 g2 pm (k.val + 1)) := by
  have hk := lt3 k
  have c2 : ¬ k0_cond2 k = 1#1 := fun h => absurd ((cond2_iff k).mp h) (by omega)
  have c3 : k0_cond3 k = 1#1 := (cond3_iff k).mpr (by omega)
  have c4 : k0_cond4 k = 1#1 := (cond4_iff k).mpr (by omega)
  unfold inv3
  rw [show k.val + 1 + 128 = k.val + 128 + 1 by ring, show k.val + 1 + 162 = k.val + 162 + 1 by ring,
    fam_take (outTodo c) (show k.val < 128 by omega),
    show k.val + 1 - 3 = k.val - 3 + 1 by omega, fam_take (outFly c X pm (tbl c arg2 g2)) (show k.val - 3 < k.val by omega), outFly_at c X pm (tbl c arg2 g2) (k.val - 3) (Ring.sl 3 k.val) (sl_prev k.val (by omega)),
    fam_put (outFly c X pm (tbl c arg2 g2)) (show k.val - 3 + 1 ≤ k.val by omega), fam_put (outDone c X pm (tbl c arg2 g2)) (show 0 ≤ k.val - 3 by omega),
    fam_nil (outFree c) (show 3 ≤ k.val by omega), fam_nil (outFree c) (show 3 ≤ k.val + 1 by omega),
    show k.val + 1 - 34 = k.val - 34 by omega, show max 162 (k.val + 128 + 1) = max 162 (k.val + 128) by omega,
    fam_take (idleP c X) (show k.val + 128 < 162 by omega), idle_at c X k.val (by omega),
    show min (k.val + 162 + 1) 256 = k.val + 162 + 1 by omega, show min (k.val + 162) 256 = k.val + 162 by omega, show min (k.val + 1) 94 = k.val + 1 by omega, show min k.val 94 = k.val by omega,
    fam_take (homeP c X) (show k.val < 128 by omega), fam_put (reFly c X) (show max 162 (k.val + 128) ≤ k.val + 162 by omega), reFly_new c X k.val,
    fam_nil (idleF c) (show k.val + 162 ≤ 256 by omega), fam_nil (idleF c) (show k.val + 162 + 1 ≤ 256 by omega)]
  iintro ⟨⟨%W, HW⟩, H2, ⟨%fa, %hfa, Ha⟩, ⟨%fr, Hr⟩, Hh0, ⟨Hh, Hh1⟩, ⟨Hi, Hid⟩, Hfl, Hfr, ⟨Ho, Hof⟩, Hoe, ⟨Ht, Hot⟩, Hdn⟩
  unfold outTodo
  icases Ht with ⟨⟨%gp', Hp⟩, ⟨%gs', Hs⟩⟩
  unfold outFlyS
  icases Ho with ⟨⟨%fp, %gp, %hp, HP⟩, ⟨%fs, %gs, %hs, HS⟩⟩
  unfold residP
  icases Hi with ⟨%g, %hg, Hsl, HF⟩
  dsimp only [body3]
  sl_unfold [k0_t3_body]
  sl_exec
  sl_step
  isplitl [HW]; · iexists _; iexact HW
  isplitl [H2]; · iexact H2
  isplitl [Ha]
  · iexists fa; isplitr; · ipureintro; exact hfa
    iexact Ha
  isplitl [Hr]; · iexists _; iexact Hr
  isplitl [Hh0]; · iexact Hh0
  isplitl [Hh1]; · iexact Hh1
  isplitl [Hid]; · iexact Hid
  unfold flightP
  isplitl [HF Hfl]
  · isplitl [HF]
    · iexists (landed c X (Ring.sl 34 (k.val + 128)) k.val g)
      isplitr; · ipureintro; exact has_landed c X _ _ g
      iexact HF
    · iexact Hfl
  isplitl [Hfr]; · iexact Hfr
  isplitl [HP HS Hof]
  · isplitl [HP HS]
    · unfold outFly
      isplitl [HP]
      · iexists _, _; isplitr
        rotate_left
        · iexact HP
        · ipureintro; exact pk_landed c X pm (tbl c arg2 g2) (tl k.val) _ (pk_next c X pm (tbl c arg2 g2) k g hg fp _ (rb_next c X pm k fa hfa)) gp'
      · iexists _, _; isplitr
        rotate_left
        · iexact HS
        · ipureintro; exact sb_landed c X pm (tl k.val) _ (sb_next c X pm k fs _ (sbV_next c X pm k fa hfa)) gs'
    · iexact Hof
  isplitl [Hoe]; · iexact Hoe
  isplitl [Hot]; · iexact Hot
  isplitl [HP_dst HS_dst]
  · iapply (done_of c X pm (tbl c arg2 g2) (k.val - 3) gp gs hp hs)
    isplitl [HP_dst]; · iexact HP_dst
    iexact HS_dst
  iexact Hdn

set_option maxHeartbeats 1000000 in
/-- A step whose tile was sent for a second time and which sends for another. -/
theorem trip3c (k : Fin k0_t3_loop.trips) (h : 34 ≤ k.val) (h' : k.val < 94) :
    inv3 c X arg2 g2 pm k.val ⊢ wp frame (wpE (defs₀ (F := F)) 𝒱₀ (c : Thread nD τ) none) Set.univ (body3 arg1 harg1 arg2 harg2 arg5 harg5 (gm X pm) k)
        (fun _ => inv3 c X arg2 g2 pm (k.val + 1)) := by
  have hk := lt3 k
  have c2 : k0_cond2 k = 1#1 := (cond2_iff k).mpr (by omega)
  have c3 : k0_cond3 k = 1#1 := (cond3_iff k).mpr (by omega)
  have c4 : k0_cond4 k = 1#1 := (cond4_iff k).mpr (by omega)
  unfold inv3
  rw [show k.val + 1 + 128 = k.val + 128 + 1 by ring, show k.val + 1 + 162 = k.val + 162 + 1 by ring,
    fam_take (outTodo c) (show k.val < 128 by omega),
    show k.val + 1 - 3 = k.val - 3 + 1 by omega, fam_take (outFly c X pm (tbl c arg2 g2)) (show k.val - 3 < k.val by omega), outFly_at c X pm (tbl c arg2 g2) (k.val - 3) (Ring.sl 3 k.val) (sl_prev k.val (by omega)),
    fam_put (outFly c X pm (tbl c arg2 g2)) (show k.val - 3 + 1 ≤ k.val by omega), fam_put (outDone c X pm (tbl c arg2 g2)) (show 0 ≤ k.val - 3 by omega),
    fam_nil (outFree c) (show 3 ≤ k.val by omega), fam_nil (outFree c) (show 3 ≤ k.val + 1 by omega),
    show k.val + 1 - 34 = k.val - 34 + 1 by omega, show max 162 (k.val + 128 + 1) = max 162 (k.val + 128) + 1 by omega,
    fam_take (reFly c X) (show max 162 (k.val + 128) < min (k.val + 162) 256 by omega), show max 162 (k.val + 128) = k.val + 128 by omega, reFly_at c X k.val (by omega),
    fam_put (homeP c X) (show 0 ≤ k.val - 34 by omega), show k.val - 34 = tl k.val by unfold tl; rw [if_neg (by omega)],
    fam_nil (idleP c X) (show 162 ≤ k.val + 128 by omega), fam_nil (idleP c X) (show 162 ≤ k.val + 128 + 1 by omega),
    show min (k.val + 162 + 1) 256 = k.val + 162 + 1 by omega, show min (k.val + 162) 256 = k.val + 162 by omega, show min (k.val + 1) 94 = k.val + 1 by omega, show min k.val 94 = k.val by omega,
    fam_take (homeP c X) (show k.val < 128 by omega), fam_put (reFly c X) (show k.val + 128 + 1 ≤ k.val + 162 by omega), reFly_new c X k.val,
    fam_nil (idleF c) (show k.val + 162 ≤ 256 by omega), fam_nil (idleF c) (show k.val + 162 + 1 ≤ 256 by omega)]
  iintro ⟨⟨%W, HW⟩, H2, ⟨%fa, %hfa, Ha⟩, ⟨%fr, Hr⟩, Hh0, ⟨Hh, Hh1⟩, Hid, ⟨Hf, Hfl⟩, Hfr, ⟨Ho, Hof⟩, Hoe, ⟨Ht, Hot⟩, Hdn⟩
  unfold outTodo
  icases Ht with ⟨⟨%gp', Hp⟩, ⟨%gs', Hs⟩⟩
  unfold outFlyS
  icases Ho with ⟨⟨%fp, %gp, %hp, HP⟩, ⟨%fs, %gs, %hs, HS⟩⟩
  unfold flightP
  icases Hf with ⟨%g, %hg, HF⟩
  dsimp only [body3]
  sl_unfold [k0_t3_body]
  sl_exec
  sl_step
  isplitl [HW]; · iexists _; iexact HW
  isplitl [H2]; · iexact H2
  isplitl [Ha]
  · iexists fa; isplitr; · ipureintro; exact hfa
    iexact Ha
  isplitl [Hr]; · iexists _; iexact Hr
  isplitl [HF_src Hh0]
  · isplitl [HF_src]; · iexact HF_src
    iexact Hh0
  isplitl [Hh1]; · iexact Hh1
  isplitl [Hid]; · iexact Hid
  isplitl [HF Hfl]
  · isplitl [HF]
    · iexists (landed c X (Ring.sl 34 (k.val + 128)) k.val g)
      isplitr; · ipureintro; exact has_landed c X _ _ g
      iexact HF
    · iexact Hfl
  isplitl [Hfr]; · iexact Hfr
  isplitl [HP HS Hof]
  · isplitl [HP HS]
    · unfold outFly
      isplitl [HP]
      · iexists _, _; isplitr
        rotate_left
        · iexact HP
        · ipureintro; exact pk_landed c X pm (tbl c arg2 g2) (tl k.val) _ (pk_next c X pm (tbl c arg2 g2) k g hg fp _ (rb_next c X pm k fa hfa)) gp'
      · iexists _, _; isplitr
        rotate_left
        · iexact HS
        · ipureintro; exact sb_landed c X pm (tl k.val) _ (sb_next c X pm k fs _ (sbV_next c X pm k fa hfa)) gs'
    · iexact Hof
  isplitl [Hoe]; · iexact Hoe
  isplitl [Hot]; · iexact Hot
  isplitl [HP_dst HS_dst]
  · iapply (done_of c X pm (tbl c arg2 g2) (k.val - 3) gp gs hp hs)
    isplitl [HP_dst]; · iexact HP_dst
    iexact HS_dst
  iexact Hdn

set_option maxHeartbeats 1000000 in
/-- A step whose tile was sent for a second time and which sends for none. -/
theorem trip3d (k : Fin k0_t3_loop.trips) (h : 94 ≤ k.val) :
    inv3 c X arg2 g2 pm k.val ⊢ wp frame (wpE (defs₀ (F := F)) 𝒱₀ (c : Thread nD τ) none) Set.univ (body3 arg1 harg1 arg2 harg2 arg5 harg5 (gm X pm) k)
        (fun _ => inv3 c X arg2 g2 pm (k.val + 1)) := by
  have hk := lt3 k
  have c2 : k0_cond2 k = 1#1 := (cond2_iff k).mpr (by omega)
  have c3 : k0_cond3 k = 1#1 := (cond3_iff k).mpr (by omega)
  have c4 : ¬ k0_cond4 k = 1#1 := fun h => absurd ((cond4_iff k).mp h) (by omega)
  unfold inv3
  rw [show k.val + 1 + 128 = k.val + 128 + 1 by ring, show k.val + 1 + 162 = k.val + 162 + 1 by ring,
    fam_take (outTodo c) (show k.val < 128 by omega),
    show k.val + 1 - 3 = k.val - 3 + 1 by omega, fam_take (outFly c X pm (tbl c arg2 g2)) (show k.val - 3 < k.val by omega), outFly_at c X pm (tbl c arg2 g2) (k.val - 3) (Ring.sl 3 k.val) (sl_prev k.val (by omega)),
    fam_put (outFly c X pm (tbl c arg2 g2)) (show k.val - 3 + 1 ≤ k.val by omega), fam_put (outDone c X pm (tbl c arg2 g2)) (show 0 ≤ k.val - 3 by omega),
    fam_nil (outFree c) (show 3 ≤ k.val by omega), fam_nil (outFree c) (show 3 ≤ k.val + 1 by omega),
    show k.val + 1 - 34 = k.val - 34 + 1 by omega, show max 162 (k.val + 128 + 1) = max 162 (k.val + 128) + 1 by omega,
    fam_take (reFly c X) (show max 162 (k.val + 128) < min (k.val + 162) 256 by omega), show max 162 (k.val + 128) = k.val + 128 by omega, reFly_at c X k.val (by omega),
    fam_put (homeP c X) (show 0 ≤ k.val - 34 by omega), show k.val - 34 = tl k.val by unfold tl; rw [if_neg (by omega)],
    fam_nil (idleP c X) (show 162 ≤ k.val + 128 by omega), fam_nil (idleP c X) (show 162 ≤ k.val + 128 + 1 by omega),
    show min (k.val + 162 + 1) 256 = 256 by omega, show min (k.val + 162) 256 = 256 by omega, show min (k.val + 1) 94 = 94 by omega, show min k.val 94 = 94 by omega,
    fam_put (idleF c) (show 256 ≤ k.val + 162 by omega), idleF_new c k.val]
  iintro ⟨⟨%W, HW⟩, H2, ⟨%fa, %hfa, Ha⟩, ⟨%fr, Hr⟩, Hh0, Hh1, Hid, ⟨Hf, Hfl⟩, Hfr, ⟨Ho, Hof⟩, Hoe, ⟨Ht, Hot⟩, Hdn⟩
  unfold outTodo
  icases Ht with ⟨⟨%gp', Hp⟩, ⟨%gs', Hs⟩⟩
  unfold outFlyS
  icases Ho with ⟨⟨%fp, %gp, %hp, HP⟩, ⟨%fs, %gs, %hs, HS⟩⟩
  unfold flightP
  icases Hf with ⟨%g, %hg, HF⟩
  dsimp only [body3]
  sl_unfold [k0_t3_body]
  sl_exec
  sl_step
  isplitl [HW]; · iexists _; iexact HW
  isplitl [H2]; · iexact H2
  isplitl [Ha]
  · iexists fa; isplitr; · ipureintro; exact hfa
    iexact Ha
  isplitl [Hr]; · iexists _; iexact Hr
  isplitl [HF_src Hh0]
  · isplitl [HF_src]; · iexact HF_src
    iexact Hh0
  isplitl [Hh1]; · iexact Hh1
  isplitl [Hid]; · iexact Hid
  isplitl [Hfl]; · iexact Hfl
  isplitl [HF_dst HF Hfr]
  · isplitl [HF_dst HF]
    · iexists g; isplitl [HF_dst]; · iexact HF_dst
      iexact HF
    · iexact Hfr
  isplitl [HP HS Hof]
  · isplitl [HP HS]
    · unfold outFly
      isplitl [HP]
      · iexists _, _; isplitr
        rotate_left
        · iexact HP
        · ipureintro; exact pk_landed c X pm (tbl c arg2 g2) (tl k.val) _ (pk_next c X pm (tbl c arg2 g2) k g hg fp _ (rb_next c X pm k fa hfa)) gp'
      · iexists _, _; isplitr
        rotate_left
        · iexact HS
        · ipureintro; exact sb_landed c X pm (tl k.val) _ (sb_next c X pm k fs _ (sbV_next c X pm k fa hfa)) gs'
    · iexact Hof
  isplitl [Hoe]; · iexact Hoe
  isplitl [Hot]; · iexact Hot
  isplitl [HP_dst HS_dst]
  · iapply (done_of c X pm (tbl c arg2 g2) (k.val - 3) gp gs hp hs)
    isplitl [HP_dst]; · iexact HP_dst
    iexact HS_dst
  iexact Hdn

/-- Every step keeps the invariant. -/
theorem trip3 (k : Fin k0_t3_loop.trips) :
    inv3 c X arg2 g2 pm k.val ⊢ wp frame (wpE (defs₀ (F := F)) 𝒱₀ (c : Thread nD τ) none) Set.univ (body3 arg1 harg1 arg2 harg2 arg5 harg5 (gm X pm) k)
        (fun _ => inv3 c X arg2 g2 pm (k.val + 1)) := by
  rcases lt_or_ge k.val 3 with h | h
  · with_reducible exact trip3a c X arg1 harg1 arg2 harg2 arg5 harg5 g2 pm k h
  rcases lt_or_ge k.val 34 with h' | h'
  · with_reducible exact trip3b c X arg1 harg1 arg2 harg2 arg5 harg5 g2 pm k h h'
  rcases lt_or_ge k.val 94 with h'' | h''
  · with_reducible exact trip3c c X arg1 harg1 arg2 harg2 arg5 harg5 g2 pm k h' h''
  · with_reducible exact trip3d c X arg1 harg1 arg2 harg2 arg5 harg5 g2 pm k h''

set_option warn.classDefReducibility false in
/-- The third loop with its invariant. -/
def loopInv3 : LoopInvTy_k0_t3 (F := F) Unit ℕ (UU nD τ) ℕ 𝒱₀ c none Set.univ xM (Memref.isWhole_whole _) arg1 harg1 arg2 harg2 pkM (Memref.isWhole_whole _) sbM (Memref.isWhole_whole _) arg5 harg5
      ringM (Memref.isWhole_whole _) amaxM (Memref.isWhole_whole _) gmaxM (Memref.isWhole_whole _) rbufM (Memref.isWhole_whole _) opkM (Memref.isWhole_whole _) osbM (Memref.isWhole_whole _) cc0_scratch6 cc0_scratch7 cc0_scratch8 (gm X pm) where
  inv k _ := inv3 c X arg2 g2 pm k
  step k acc := by
    have t : inv3 c X arg2 g2 pm k.val ⊢ wp frame (wpE (defs₀ (F := F)) 𝒱₀ (c : Thread nD τ) none) Set.univ (body3 arg1 harg1 arg2 harg2 arg5 harg5 (gm X pm) k)
        (fun _ => inv3 c X arg2 g2 pm (k.val + 1)) := by
      with_reducible exact trip3 c X arg1 harg1 arg2 harg2 arg5 harg5 g2 pm k
    refine t.trans ?_
    with_reducible exact .rfl

end Pass2

end Cert.KernelIdeal.Hand
-- ==== Proof.Ideal.Loop4.lean ====
/-
  The last loop: the three results still under way are waited for.
-/
module

public import proofs.«01_k».proof.Proof.Ideal.Outs

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Drain
variable (c : Dev nD) (X : Buf (Elt F) (xM.view.loc (c : Thread nD τ))) (pm eye : Vec F S256x256 .bf16)
  (arg1 : Memref sig .tc .vmem S256x256 .bf16) (harg1 : arg1.IsWhole) (arg2 : Memref sig .tc .vmem S256x256 .bf16) (harg2 : arg2.IsWhole)
  (arg5 : Memref sig .tc .smem S1x1 .f32) (harg5 : arg5.IsWhole)

/-- Before step `k`: outputs below `125 + k` are written, the rest under way. -/
def inv4 (k : ℕ) : sProp 𝕄 :=
  iprop((∃ W, owes (c : Thread nD τ) 0 W) ∗ fam (outFly c X pm eye) (k + 125) 128 ∗ fam (outFree c) 128 (k + 128) ∗ fam (outDone c X pm eye) 0 (k + 125))

set_option warn.classDefReducibility false in
set_option maxHeartbeats 1000000 in
@[sl_loop] def loopInv4 : LoopInvTy_k0_t4 (F := F) Unit ℕ (UU nD τ) ℕ 𝒱₀ c none Set.univ xM (Memref.isWhole_whole _) arg1 harg1 arg2 harg2 pkM (Memref.isWhole_whole _) sbM (Memref.isWhole_whole _) arg5 harg5
      ringM (Memref.isWhole_whole _) amaxM (Memref.isWhole_whole _) gmaxM (Memref.isWhole_whole _) rbufM (Memref.isWhole_whole _) opkM (Memref.isWhole_whole _) osbM (Memref.isWhole_whole _) cc0_scratch6 cc0_scratch7 cc0_scratch8 where
  inv k _ := inv4 c X pm eye k
  step k _ := by
    have hk := lt4 k
    unfold inv4
    rw [show k.val + 1 + 125 = k.val + 125 + 1 by ring, show k.val + 1 + 128 = k.val + 128 + 1 by ring,
      fam_take (outFly c X pm eye) (show k.val + 125 < 128 by omega), fam_put (outFree c) (show 128 ≤ k.val + 128 by omega),
      fam_put (outDone c X pm eye) (show 0 ≤ k.val + 125 by omega)]
    iintro ⟨⟨%W, HW⟩, ⟨Ho, Hfl⟩, Hfr, Hdn⟩
    unfold outFly
    icases Ho with ⟨⟨%fp, %gp, %hp, HP⟩, ⟨%fs, %gs, %hs, HS⟩⟩
    sl_unfold [k0_t4_body]
    sl_exec
    sl_step
    isplitl [HW]; · iexists _; iexact HW
    isplitl [Hfl]; · iexact Hfl
    isplitl [HP_src HP HS_src HS Hfr]
    · isplitl [HP_src HP HS_src HS]
      · iapply (free_next c (k.val + 125) fp fs)
        isplitl [HP_src HP]
        · isplitl [HP_src]; · iexact HP_src
          iexact HP
        · isplitl [HS_src]; · iexact HS_src
          iexact HS
      · iexact Hfr
    · isplitl [HP_dst HS_dst]
      · iapply (done_of c X pm eye (k.val + 125) gp gs hp hs)
        isplitl [HP_dst]; · iexact HP_dst
        iexact HS_dst
      · iexact Hdn

end Drain

end Cert.KernelIdeal.Hand
-- ==== Proof.Ideal.Body.lean ====
/-
  The whole body: the four loops in turn.
-/
module

public import proofs.«01_k».proof.Proof.Ideal.Loop3
public import proofs.«01_k».proof.Proof.Ideal.Loop4

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Body
variable (c : Dev nD) (X : Buf (Elt F) (xM.view.loc (c : Thread nD τ)))
  (arg1 : Memref sig .tc .vmem S256x256 .bf16) (harg1 : arg1.IsWhole) (arg2 : Memref sig .tc .vmem S256x256 .bf16) (harg2 : arg2.IsWhole)
  (arg5 : Memref sig .tc .smem S1x1 .f32) (harg5 : arg5.IsWhole)
  (g1 : Buf (Elt F) (arg1.view.loc (c : Thread nD τ))) (g2 : Buf (Elt F) (arg2.view.loc (c : Thread nD τ)))

/-- The body on the given staging memrefs. -/
abbrev bodyG : Prog (TpuEff nD τ sig (Elt F) Λ₀ .tc) PUnit :=
  cc0_nvfp4_quantise (F := F) xM (Memref.isWhole_whole _) arg1 harg1 arg2 harg2 pkM (Memref.isWhole_whole _) sbM (Memref.isWhole_whole _) arg5 harg5
      ringM (Memref.isWhole_whole _) amaxM (Memref.isWhole_whole _) gmaxM (Memref.isWhole_whole _) rbufM (Memref.isWhole_whole _) opkM (Memref.isWhole_whole _) osbM (Memref.isWhole_whole _) cc0_scratch6 cc0_scratch7 cc0_scratch8

/-- What the body is handed: the tables, the per-tensor scale's buffer and the body's own buffers at anything, the
array's tiles, the ring's slots, the results' places and their slots. -/
def PRE (W : Waits sig Unit) : sProp 𝕄 :=
  iprop(bufP c arg1 g1 ∗ bufP c arg2 g2 ∗ (∃ f, bufP c arg5 f) ∗ (∃ f, bufP c amaxM f) ∗ (∃ f, bufP c gmaxM f) ∗ (∃ f, bufP c rbufM f)
    ∗ fam (homeP c X) 0 128 ∗ fam (idleP c X) 0 34 ∗ fam (outFree c) 0 3 ∗ fam (outTodo c) 0 128 ∗ owes (c : Thread nD τ) 0 W)
/-- What it hands back: the same, the per-tensor scale and every result tile computed. -/
def POST : sProp 𝕄 :=
  iprop(bufP c arg1 g1 ∗ bufP c arg2 g2 ∗ (∃ f, ⌜arg5.view.read (Elt F) f = fun _ => k0_pay215 (gm X (tbl c arg1 g1))⌝ ∗ bufP c arg5 f)
    ∗ (∃ f, bufP c amaxM f) ∗ (∃ f, bufP c gmaxM f) ∗ (∃ f, bufP c rbufM f)
    ∗ fam (homeP c X) 0 128 ∗ fam (idleF c) 256 290 ∗ fam (outFree c) 128 131 ∗ fam (outDone c X (tbl c arg1 g1) (tbl c arg2 g2)) 0 128 ∗ ∃ W, owes (c : Thread nD τ) 0 W)

/-- Equal assertions entail each other. -/
theorem ent_of_eq {M : Type _} [URA M] {P Q : sProp M} (e : P = Q) : P ⊢ Q := e ▸ .rfl
/-- Two adjoining stretches of a family are one stretch. -/
theorem fam_join {M : Type _} [URA M] (Φ : ℕ → sProp M) {a b d : ℕ} (h : a ≤ b) (h' : b ≤ d) : iprop(fam Φ a b ∗ fam Φ b d) = fam Φ a d := by
  have e : Finset.Ico a d = Finset.Ico a b ∪ Finset.Ico b d := (Finset.Ico_union_Ico_eq_Ico h h').symm
  show _ = bigSep _ _
  rw [e, bigSep_union (Finset.Ico_disjoint_Ico_consecutive a b d)]; rfl

/-- The running maximum starts at zero. -/
theorem gmax_zero (f : Buf (Elt F) (gmaxM.view.loc (c : Thread nD τ))) (pm : Vec F S256x256 .bf16) :
    GmaxOK c X pm 0 (gmaxM.view.writes (Elt F) f [⟨Rect.unit (s := S16x256) ![0, 0] S16x256.size inb_S16x256_S16x256_0_0, k0_pay209⟩]) := by
  unfold GmaxOK
  funext y
  have e : (Rect.unit (s := S16x256) ![0, 0] S16x256.size inb_S16x256_S16x256_0_0).emb y = y := by
    refine Rect.emb_eq_of_coords _ _ _ fun a => ?_
    fin_cases a
    · show (y 0).val = 0 + 1 * (y 0).val; omega
    · show (y 1).val = 0 + 1 * (y 1).val; omega
  have t := View.read_writes_cons_emb (Val := Elt F) gmaxM.view f (Rect.unit (s := S16x256) ![0, 0] S16x256.size inb_S16x256_S16x256_0_0) (k0_pay209 (F := F)) [] y
  rw [e] at t
  exact t
/-- The running maximum as the body loads it. -/
theorem gmax_load (f : Buf (Elt F) (gmaxM.view.loc (c : Thread nD τ))) (pm : Vec F S256x256 .bf16) (h : GmaxOK c X pm 128 f) :
    gmaxM.view.readAt (Elt F) (Rect.unit (s := S16x256) ![0, 0] S16x256.size inb_S16x256_S16x256_0_0).toLoadRect f = gm X pm := by
  unfold GmaxOK at h
  unfold gm
  rw [← h]
  funext y
  have e : (Rect.unit (s := S16x256) ![0, 0] S16x256.size inb_S16x256_S16x256_0_0).emb y = y := by
    refine Rect.emb_eq_of_coords _ _ _ fun a => ?_
    fin_cases a
    · show (y 0).val = 0 + 1 * (y 0).val; omega
    · show (y 1).val = 0 + 1 * (y 1).val; omega
  exact congrArg (gmaxM.view.read (Elt F) f) e
/-- The per-tensor scale's buffer after its store. -/
theorem sg_store (f : Buf (Elt F) (arg5.view.loc (c : Thread nD τ))) (x : Elt F .f32) :
    arg5.view.read (Elt F) (arg5.view.writes (Elt F) f [⟨Rect.unit (s := S1x1) ![0, 0] S1x1.size inb_S1x1_S1x1_0_0, fun _ => x⟩]) = fun _ => x := by
  funext y
  have e : (Rect.unit (s := S1x1) ![0, 0] S1x1.size inb_S1x1_S1x1_0_0).emb y = y := by
    refine Rect.emb_eq_of_coords _ _ _ fun a => ?_
    fin_cases a
    · show (y 0).val = 0 + 1 * (y 0).val; omega
    · show (y 1).val = 0 + 1 * (y 1).val; omega
  have t := View.read_writes_cons_emb (Val := Elt F) arg5.view f (Rect.unit (s := S1x1) ![0, 0] S1x1.size inb_S1x1_S1x1_0_0) (fun _ => x) [] y
  rw [e] at t
  exact t
/-- The first loop's start, and each loop's end as the next one's start. -/
theorem inv1_zero (W : Waits sig Unit) : iprop(owes (c : Thread nD τ) 0 W ∗ fam (homeP c X) 0 128 ∗ fam (idleP c X) 0 34) ⊢ (inv1 c X 0 : sProp 𝕄) := by
  unfold inv1
  rw [fam_nil _ (le_refl 0)]
  iintro ⟨HW, Hh, Hi⟩
  isplitl [HW]; · iexists W; iexact HW
  isplitl [Hh]; · iexact Hh
  isplitr; · iempintro
  iexact Hi
/-- The second loop's invariant holds before its first step. -/
theorem inv2_zero (fa : Buf (Elt F) (amaxM.view.loc (c : Thread nD τ))) :
    iprop(inv1 c X 8 ∗ bufP c arg1 g1 ∗ bufP c amaxM fa ∗ (∃ f, ⌜GmaxOK c X (tbl c arg1 g1) 0 f⌝ ∗ bufP c gmaxM f)) ⊢ (inv2 c X arg1 g1 0 : sProp 𝕄) := by
  unfold inv1 inv2
  rw [show min (0 + 8) 128 = 8 by rfl, fam_nil _ (le_refl 0)]
  iintro ⟨⟨⟨%W, HW⟩, Hh, Hf, Hi⟩, H1, Ha, Hg⟩
  isplitl [HW]; · iexists W; iexact HW
  isplitl [H1]; · iexact H1
  isplitl [Ha]
  · iexists fa; isplitr; · ipureintro; intro y hy; exact absurd hy (by omega)
    iexact Ha
  isplitl [Hg]; · iexact Hg
  isplitr; · iempintro
  isplitl [Hh]; · iexact Hh
  isplitl [Hf]; · iexact Hf
  iexact Hi
/-- What the second loop leaves beside its running maximum. -/
def mid : sProp 𝕄 :=
  iprop((∃ W, owes (c : Thread nD τ) 0 W) ∗ (∃ f, ⌜AmaxOK c X (tbl c arg1 g1) 128 f⌝ ∗ bufP c amaxM f) ∗ fam (homeP c X) 0 128 ∗ fam (idleP c X) 128 162)
/-- What the second loop's invariant says after its last step. -/
theorem inv2_end : inv2 c X arg1 g1 128 ⊢ (iprop(mid c X arg1 g1 ∗ bufP c arg1 g1 ∗ ∃ f, ⌜GmaxOK c X (tbl c arg1 g1) 128 f⌝ ∗ bufP c gmaxM f) : sProp 𝕄) := by
  unfold inv2 mid
  rw [show min (128 + 8) 128 = 128 by rfl]
  iintro ⟨HW, H1, Ha, Hg, Hh, -, -, Hi⟩
  isplitl [HW Ha Hh Hi]
  · isplitl [HW]; · iexact HW
    isplitl [Ha]; · iexact Ha
    isplitl [Hh]; · iexact Hh
    iexact Hi
  isplitl [H1]; · iexact H1
  iexact Hg
/-- The third loop's invariant holds before its first step. -/
theorem inv3_zero (fr : Buf (Elt F) (rbufM.view.loc (c : Thread nD τ))) :
    iprop(mid c X arg1 g1 ∗ bufP c arg2 g2 ∗ bufP c rbufM fr ∗ fam (outFree c) 0 3 ∗ fam (outTodo c) 0 128) ⊢ (inv3 c X arg2 g2 (tbl c arg1 g1) 0 : sProp 𝕄) := by
  unfold mid inv3
  rw [show 0 - 34 = 0 by rfl, show min 0 94 = 0 by rfl, fam_nil (homeP c X) (le_refl 0),
    fam_nil (reFly c X) (show min (0 + 162) 256 ≤ max 162 (0 + 128) by decide), fam_nil (idleF c) (show 0 + 162 ≤ 256 by decide),
    fam_nil (outFly c X (tbl c arg1 g1) (tbl c arg2 g2)) (le_refl 0), fam_nil (outDone c X (tbl c arg1 g1) (tbl c arg2 g2)) (le_refl 0)]
  iintro ⟨⟨HW, Ha, Hh, Hi⟩, H2, Hr, Hf, Ht⟩
  isplitl [HW]; · iexact HW
  isplitl [H2]; · iexact H2
  isplitl [Ha]; · iexact Ha
  isplitl [Hr]; · iexists fr; iexact Hr
  isplitr; · iempintro
  isplitl [Hh]; · iexact Hh
  isplitl [Hi]; · iexact Hi
  isplitr; · iempintro
  isplitr; · iempintro
  isplitr; · iempintro
  isplitl [Hf]; · iexact Hf
  isplitl [Ht]; · iexact Ht
  iempintro
/-- What the third loop's invariant says after its last step. -/
theorem inv3_end : inv3 c X arg2 g2 (tbl c arg1 g1) 128 ⊢ (iprop(inv4 c X (tbl c arg1 g1) (tbl c arg2 g2) 0
    ∗ bufP c arg2 g2 ∗ (∃ f, bufP c amaxM f) ∗ (∃ f, bufP c rbufM f) ∗ fam (homeP c X) 0 128 ∗ fam (idleF c) 256 290) : sProp 𝕄) := by
  unfold inv3 inv4
  rw [show 128 - 34 = 94 by rfl, show min 128 94 = 94 by rfl, show 128 - 3 = 125 by rfl, show 128 + 162 = 290 by rfl, show 0 + 125 = 125 by rfl,
    show 0 + 128 = 128 by rfl, fam_nil (outFree c) (show 3 ≤ 128 by decide), fam_nil (outFree c) (le_refl 128), ← fam_join (homeP c X) (show 0 ≤ 94 by decide) (show 94 ≤ 128 by decide)]
  iintro ⟨HW, H2, ⟨%fa, %hfa, Ha⟩, Hr, Hh, Hh', -, -, Hi, Ho, -, -, Hd⟩
  isplitl [HW Ho Hd]
  · isplitl [HW]; · iexact HW
    isplitl [Ho]; · iexact Ho
    isplitr; · iempintro
    iexact Hd
  isplitl [H2]; · iexact H2
  isplitl [Ha]; · iexists fa; iexact Ha
  isplitl [Hr]; · iexact Hr
  isplitl [Hh Hh']
  · isplitl [Hh]; · iexact Hh
    iexact Hh'
  iexact Hi

set_option maxHeartbeats 2000000 in
/-- The body takes what it is handed to what it hands back. -/
theorem bodyRun (W : Waits sig Unit) (Q : PUnit → sProp 𝕄) :
    iprop(PRE c X arg1 arg2 arg5 g1 g2 W ∗ (POST c X arg1 arg2 arg5 g1 g2 -∗ Q ⟨⟩))
      ⊢ wp frame (wpE (defs₀ (F := F)) 𝒱₀ (c : Thread nD τ) none) Set.univ (bodyG arg1 harg1 arg2 harg2 arg5 harg5) Q := by
  unfold PRE
  iintro ⟨⟨H1, H2, ⟨%f5, H5⟩, ⟨%fa, Ha⟩, ⟨%fg, Hg⟩, ⟨%fr, Hr⟩, Hh, Hi, Hf, Ht, HW⟩, Hk⟩
  sl_exec
  ihave HI := (inv1_zero c X W) $$ [HW Hh Hi]
  · isplitl [HW]; · iexact HW
    isplitl [Hh]; · iexact Hh
    iexact Hi
  sl_for (fun k _ => inv1 c X k) $$ [HI]
  · intro k acc
    exact (loopInv1 c X arg1 harg1 arg2 harg2 arg5 harg5).step k acc
  · iexact HI
  iintro %_ HI
  ihave HI := (ent_of_eq (congrArg (inv1 c X) (show Scf.trips k0_t1_loop.lb k0_t1_loop.ub k0_t1_loop.st = 8 from trips1))) $$ HI
  ihave HI := (inv2_zero c X arg1 g1 fa) $$ [HI H1 Ha Hg]
  · isplitl [HI]; · iexact HI
    isplitl [H1]; · iexact H1
    isplitl [Ha]; · iexact Ha
    iexists _; isplitr
    rotate_left
    · iexact Hg
    · ipureintro; exact gmax_zero c X _ (tbl c arg1 g1)
  sl_for (fun k _ => inv2 c X arg1 g1 k) $$ [HI]
  · intro k acc
    exact (loopInv2 c X arg1 harg1 arg2 harg2 arg5 harg5 g1).step k acc
  · iexact HI
  iintro %_ HI
  ihave HI := (ent_of_eq (congrArg (inv2 c X arg1 g1) (show Scf.trips k0_t2_loop.lb k0_t2_loop.ub k0_t2_loop.st = 128 from trips2))) $$ HI
  ihave HI := (inv2_end c X arg1 g1) $$ HI
  icases HI with ⟨HM, H1, ⟨%fg', %hg', Hg⟩⟩
  sl_exec
  ihave HI := (inv3_zero c X arg1 arg2 g1 g2 fr) $$ [HM H2 Hr Hf Ht]
  · isplitl [HM]; · iexact HM
    isplitl [H2]; · iexact H2
    isplitl [Hr]; · iexact Hr
    isplitl [Hf]; · iexact Hf
    iexact Ht
  sl_rw [gmax_load c X fg' (tbl c arg1 g1) hg']
  sl_for (fun k _ => inv3 c X arg2 g2 (tbl c arg1 g1) k) $$ [HI]
  · intro k acc
    exact (loopInv3 c X arg1 harg1 arg2 harg2 arg5 harg5 g2 (tbl c arg1 g1)).step k acc
  · iexact HI
  iintro %_ HI
  ihave HI := (ent_of_eq (congrArg (inv3 c X arg2 g2 (tbl c arg1 g1)) (show Scf.trips k0_t3_loop.lb k0_t3_loop.ub k0_t3_loop.st = 128 from trips3))) $$ HI
  ihave HI := (inv3_end c X arg1 arg2 g1 g2) $$ HI
  icases HI with ⟨HI, H2, Ha, Hr, Hh, Hi⟩
  sl_for (fun k _ => inv4 c X (tbl c arg1 g1) (tbl c arg2 g2) k) $$ [HI]
  · intro k acc
    exact (loopInv4 c X (tbl c arg1 g1) (tbl c arg2 g2) arg1 harg1 arg2 harg2 arg5 harg5).step k acc
  · iexact HI
  iintro %_ HI
  ihave HI := (ent_of_eq (congrArg (inv4 c X (tbl c arg1 g1) (tbl c arg2 g2)) (show Scf.trips k0_t4_loop.lb k0_t4_loop.ub k0_t4_loop.st = 3 from trips4))) $$ HI
  sl_exec
  sl_step
  iapply Hk
  unfold POST inv4
  icases HI with ⟨HW, -, Hf, Hd⟩
  isplitl [H1]; · iexact H1
  isplitl [H2]; · iexact H2
  isplitl [H5]
  · iexists _; isplitr
    rotate_left
    · iexact H5
    · ipureintro
      exact (sg_store c arg5 _ _).trans (congrArg (fun (v : Vec F S16x256 .f32) (_ : S1x1.Idx) => k0_pay215 v) (gmax_load c X fg' (tbl c arg1 g1) hg'))
  isplitl [Ha]; · iexact Ha
  isplitl [Hg]; · iexists _; iexact Hg
  isplitl [Hr]; · iexact Hr
  isplitl [Hh]; · iexact Hh
  isplitl [Hi]; · iexact Hi
  isplitl [Hf]; · iexact Hf
  isplitl [Hd]; · iexact Hd
  iexact HW
end Body

end Cert.KernelIdeal.Hand
-- ==== Proof.Ideal.Sets.lean ====
/-
  The arrays and the body's buffers cut into tiles and slots, and put together again.
-/
module

public import proofs.«01_k».proof.Proof.Ideal.Body

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section General
variable {M : Type _} [URA M]
/-- A family over all of `Fin n`, listed by an injective numbering of `n` naturals. -/
theorem fam_list (n : ℕ) [NeZero n] (φ : ℕ → ℕ) (a b : ℕ) (hn : b - a = n)
    (hinj : ∀ x y, a ≤ x → x < b → a ≤ y → y < b → φ x % n = φ y % n → x = y) (Ψ : Fin n → sProp M) :
    bigSep Finset.univ Ψ = fam (fun k => Ψ (Fin.ofNat n (φ k))) a b := by
  have hi : Set.InjOn (fun k => (Fin.ofNat n (φ k) : Fin n)) (Finset.Ico a b : Finset ℕ) := by
    intro x hx y hy hxy
    have hx' := Finset.mem_Ico.mp (Finset.mem_coe.mp hx); have hy' := Finset.mem_Ico.mp (Finset.mem_coe.mp hy)
    exact hinj x y hx'.1 hx'.2 hy'.1 hy'.2 (congrArg Fin.val hxy)
  have e : (Finset.Ico a b).image (fun k => (Fin.ofNat n (φ k) : Fin n)) = Finset.univ := by
    refine Finset.eq_univ_of_card _ ?_
    rw [Finset.card_image_of_injOn hi, Nat.card_Ico, hn, Fintype.card_fin]
  rw [← e]
  exact bigSep_image_of_injOn hi Ψ
/-- Different steps have different tiles. -/
theorem tl_inj (x y : ℕ) (hx : 0 ≤ x) (hx' : x < 128) (hy : 0 ≤ y) (hy' : y < 128) (h : tl x % 128 = tl y % 128) : x = y := by
  unfold tl at h; split at h <;> split at h <;> omega

variable {nD : Nat} {τ : Topo} {sig : RefSig} {Ix : Type} [DecidableEq Ix] {Val : EltTy → Type} {Name : Type} [DecidableEq Name] {U : Type} [URA U] {Lvl : Type}
/-- Blocks that each hold what `P` says put together to a buffer of which all blocks do. -/
theorem blocks_join {ℓ : Loc nD τ sig} {B : Type} [Fintype B] [DecidableEq B] (I : B → Finset (Idx ℓ)) (hd : ∀ b b', b ≠ b' → Disjoint (I b) (I b'))
    (hc : Finset.univ.biUnion I = Finset.univ) (P : B → Buf Val ℓ → Prop) (hP : ∀ b f g, (∀ i ∈ I b, g i = f i) → P b f → P b g) (f₀ : Buf Val ℓ) :
    bigSep Finset.univ (fun b => iprop(∃ f, ⌜P b f⌝ ∗ ℓ ↦[I b]{fullShare} f)) ⊢ (iprop(∃ g, ⌜∀ b, P b g⌝ ∗ ℓ ↦{fullShare} g) : sProp (MT nD τ sig Ix Val Name U Lvl)) := by
  have : Nonempty (Buf Val ℓ) := ⟨f₀⟩
  refine (Idealize.SL.BI.bigSep_exists_pi Finset.univ (fun b (f : Buf Val ℓ) => (iprop(⌜P b f⌝ ∗ ℓ ↦[I b]{fullShare} f) : sProp (MT nD τ sig Ix Val Name U Lvl)))).trans ?_
  iintro ⟨%fs, H⟩
  ihave H := (bigSep_pure_sep Finset.univ (fun b => P b (fs b)) (fun b => (ℓ ↦[I b]{fullShare} fs b : sProp (MT nD τ sig Ix Val Name U Lvl)))) $$ H
  icases H with ⟨%hp, H⟩
  ihave H := (pointsTo_biUnion_join Finset.univ I fs f₀ (fun b _ b' _ h => hd b b' h)) $$ H
  icases H with ⟨%g, %hg, H⟩
  iexists g
  isplitr; · ipureintro; exact fun b => hP b (fs b) g (hg b (Finset.mem_univ b)) (hp b (Finset.mem_univ b))
  rw [hc]
  iexact H
end General

/-! ## The element sets -/

/-- The places of tile `b` of the array read. -/
abbrev XS (b : Fin 128) : Finset S65536x1280.Idx := (Rect.unit (s := S65536x1280) (xOff b) S512x1280.size (xOff_inb b)).set
/-- The places of tile `b` of the packed result. -/
abbrev KS (b : Fin 128) : Finset S65536x640.Idx := (Rect.unit (s := S65536x640) (pkOff b) S512x640.size (pkOff_inb b)).set
/-- The places of tile `b` of the block scales. -/
abbrev BS (b : Fin 128) : Finset S16x80x4096.Idx := (Rect.unit (s := S16x80x4096) (sbOff b) S1x80x512.size (sbOff_inb b)).set
/-- The places of slot `s` of the ring. -/
abbrev RS (s : Fin 34) : Finset S34x512x1280.Idx := (Rect.unit (s := S34x512x1280) (ringOff s) S1x512x1280.size (ringOff_inb s)).set
/-- The places of slot `s` of the packed tiles. -/
abbrev PS (s : Fin 3) : Finset S3x512x640.Idx := (Rect.unit (s := S3x512x640) (outOff s) S1x512x640.size (opkOff_inb s)).set
/-- The places of slot `s` of the scale tiles. -/
abbrev SS (s : Fin 3) : Finset S3x80x512.Idx := (Rect.unit (s := S3x80x512) (outOff s) S1x80x512.size (osbOff_inb s)).set
/-- The tile of the array read covers those places. -/
theorem xT_set (b : Fin 128) : (xT b).view.set = XS b := View.set_slice_whole _ _
/-- The tile of the packed result covers those places. -/
theorem pkT_set (b : Fin 128) : (pkT b).view.set = KS b := View.set_slice_whole _ _
/-- The tile of the block scales covers those places. -/
theorem sbT_set (b : Fin 128) : (sbT b).view.set = BS b := (View.set_reshape _ _).trans (View.set_slice_whole _ _)
/-- The ring slot covers those places. -/
theorem rslot_set (s : Fin 34) : (rslot s).view.set = RS s := (View.set_reshape _ _).trans (View.set_slice_whole _ _)
/-- The packed slot covers those places. -/
theorem pslot_set (s : Fin 3) : (pslot s).view.set = PS s := (View.set_reshape _ _).trans (View.set_slice_whole _ _)
/-- The scale slot covers those places. -/
theorem sslot_set (s : Fin 3) : (sslot s).view.set = SS s := (View.set_reshape _ _).trans (View.set_slice_whole _ _)

/-- A family of sets each of which is a level set of one function is disjoint and covers. -/
theorem level_disjoint {α β : Type} [DecidableEq α] (I : β → Finset α) (φ : α → β) (h : ∀ b y, y ∈ I b ↔ φ y = b) : ∀ b b', b ≠ b' → Disjoint (I b) (I b') := by
  intro b b' hne; rw [Finset.disjoint_left]; intro y hy hy'; exact hne (((h b y).mp hy).symm.trans ((h b' y).mp hy'))
/-- Level sets of one function cover everything. -/
theorem level_cover {α β : Type} [DecidableEq α] [Fintype α] [Fintype β] (I : β → Finset α) (φ : α → β) (h : ∀ b y, y ∈ I b ↔ φ y = b) : Finset.univ.biUnion I = Finset.univ := by
  ext y; simp only [Finset.mem_biUnion, Finset.mem_univ, true_and, iff_true]; exact ⟨φ y, (h _ y).mpr rfl⟩

/-- The tile a place of the array read lies in. -/
abbrev xLvl (y : S65536x1280.Idx) : Fin 128 := Fin.ofNat 128 ((y 0).val / 512)
/-- The tile a place of the packed result lies in. -/
abbrev kLvl (y : S65536x640.Idx) : Fin 128 := Fin.ofNat 128 ((y 0).val / 512)
/-- The tile a place of the block scales lies in. -/
abbrev bLvl (y : S16x80x4096.Idx) : Fin 128 := Fin.ofNat 128 (8 * (y 0).val + (y 2).val / 512)
/-- The slot a place of the ring lies in. -/
abbrev rLvl (y : S34x512x1280.Idx) : Fin 34 := Fin.ofNat 34 (y 0).val
/-- The slot a place of the packed tiles lies in. -/
abbrev pLvl (y : S3x512x640.Idx) : Fin 3 := Fin.ofNat 3 (y 0).val
/-- The slot a place of the scale tiles lies in. -/
abbrev sLvl (y : S3x80x512.Idx) : Fin 3 := Fin.ofNat 3 (y 0).val
/-- A place lies in exactly the tile named for it. -/
theorem mem_XS (b : Fin 128) (y : S65536x1280.Idx) : y ∈ XS b ↔ xLvl y = b := by
  rw [Rect.mem_set_unit, Fin.ext_iff]
  have hb := b.isLt
  have h0 : (y 0).val < 65536 := (y 0).isLt
  have h1 : (y 1).val < 1280 := (y 1).isLt
  show _ ↔ (y 0).val / 512 % 128 = b.val
  constructor
  · intro H; have a0 : 512 * b.val ≤ (y 0).val ∧ (y 0).val < 512 * b.val + 512 := H 0; omega
  · intro H a; fin_cases a
    · show 512 * b.val ≤ (y 0).val ∧ (y 0).val < 512 * b.val + 512; omega
    · show 0 ≤ (y 1).val ∧ (y 1).val < 0 + 1280; omega
/-- A place lies in exactly the tile named for it. -/
theorem mem_KS (b : Fin 128) (y : S65536x640.Idx) : y ∈ KS b ↔ kLvl y = b := by
  rw [Rect.mem_set_unit, Fin.ext_iff]
  have hb := b.isLt
  have h0 : (y 0).val < 65536 := (y 0).isLt
  have h1 : (y 1).val < 640 := (y 1).isLt
  show _ ↔ (y 0).val / 512 % 128 = b.val
  constructor
  · intro H; have a0 : 512 * b.val ≤ (y 0).val ∧ (y 0).val < 512 * b.val + 512 := H 0; omega
  · intro H a; fin_cases a
    · show 512 * b.val ≤ (y 0).val ∧ (y 0).val < 512 * b.val + 512; omega
    · show 0 ≤ (y 1).val ∧ (y 1).val < 0 + 640; omega
/-- A place lies in exactly the tile named for it. -/
theorem mem_BS (b : Fin 128) (y : S16x80x4096.Idx) : y ∈ BS b ↔ bLvl y = b := by
  rw [Rect.mem_set_unit, Fin.ext_iff]
  have hb := b.isLt
  have h0 : (y 0).val < 16 := (y 0).isLt
  have h1 : (y 1).val < 80 := (y 1).isLt
  have h2 : (y 2).val < 4096 := (y 2).isLt
  show _ ↔ (8 * (y 0).val + (y 2).val / 512) % 128 = b.val
  constructor
  · intro H
    have a0 : b.val / 8 ≤ (y 0).val ∧ (y 0).val < b.val / 8 + 1 := H 0
    have a2 : b.val % 8 * 512 ≤ (y 2).val ∧ (y 2).val < b.val % 8 * 512 + 512 := H 2
    omega
  · intro H a; fin_cases a
    · show b.val / 8 ≤ (y 0).val ∧ (y 0).val < b.val / 8 + 1; omega
    · show 0 ≤ (y 1).val ∧ (y 1).val < 0 + 80; omega
    · show b.val % 8 * 512 ≤ (y 2).val ∧ (y 2).val < b.val % 8 * 512 + 512; omega
/-- A place lies in exactly the slot named for it. -/
theorem mem_RS (s : Fin 34) (y : S34x512x1280.Idx) : y ∈ RS s ↔ rLvl y = s := by
  rw [Rect.mem_set_unit, Fin.ext_iff]
  have hs := s.isLt
  have h0 : (y 0).val < 34 := (y 0).isLt
  have h1 : (y 1).val < 512 := (y 1).isLt
  have h2 : (y 2).val < 1280 := (y 2).isLt
  show _ ↔ (y 0).val % 34 = s.val
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 512; omega
    · show 0 ≤ (y 2).val ∧ (y 2).val < 0 + 1280; omega
/-- A place lies in exactly the slot named for it. -/
theorem mem_PS (s : Fin 3) (y : S3x512x640.Idx) : y ∈ PS s ↔ pLvl y = s := by
  rw [Rect.mem_set_unit, Fin.ext_iff]
  have hs := s.isLt
  have h0 : (y 0).val < 3 := (y 0).isLt
  have h1 : (y 1).val < 512 := (y 1).isLt
  have h2 : (y 2).val < 640 := (y 2).isLt
  show _ ↔ (y 0).val % 3 = s.val
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 512; omega
    · show 0 ≤ (y 2).val ∧ (y 2).val < 0 + 640; omega
/-- A place lies in exactly the slot named for it. -/
theorem mem_SS (s : Fin 3) (y : S3x80x512.Idx) : y ∈ SS s ↔ sLvl y = s := by
  rw [Rect.mem_set_unit, Fin.ext_iff]
  have hs := s.isLt
  have h0 : (y 0).val < 3 := (y 0).isLt
  have h1 : (y 1).val < 80 := (y 1).isLt
  have h2 : (y 2).val < 512 := (y 2).isLt
  show _ ↔ (y 0).val % 3 = s.val
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 80; omega
    · show 0 ≤ (y 2).val ∧ (y 2).val < 0 + 512; omega

section Split
variable (c : Dev nD)

/-- The array read, whole, is its tiles. -/
theorem x_eq (X : Buf (Elt F) (xM.view.loc (c : Thread nD τ))) : (((c : Thread nD τ).loc main_v0) ↦{fullShare} X : sProp 𝕄) = fam (homeP c X) 0 128 := by
  have e := Ring.pointsTo_blocks (Ix := Unit) (Name := ℕ) (U := UU nD τ) (Lvl := ℕ) (q := fullShare) (ℓ := (c : Thread nD τ).loc main_v0) XS (level_disjoint XS xLvl mem_XS) (level_cover XS xLvl mem_XS) X
  refine e.trans ((fam_list 128 (fun k => k) 0 128 rfl (fun x y _ _ _ _ h => by omega) _).trans ?_)
  refine bigSep_congr fun k _ => ?_
  show _ = homeP c X k
  rw [← xT_set]; rfl
/-- The results' arrays, whole at anything, are the places to write. -/
theorem todo_of (f : Buf (Elt F) ((c : Thread nD τ).loc main_v16_0)) (g : Buf (Elt F) ((c : Thread nD τ).loc main_v16_1)) :
    iprop((((c : Thread nD τ).loc main_v16_0) ↦{fullShare} f) ∗ (((c : Thread nD τ).loc main_v16_1) ↦{fullShare} g)) ⊢ (fam (outTodo c) 0 128 : sProp 𝕄) := by
  have e := (Ring.pointsTo_blocks (Ix := Unit) (Name := ℕ) (U := UU nD τ) (Lvl := ℕ) (q := fullShare) (ℓ := (c : Thread nD τ).loc main_v16_0) KS (level_disjoint KS kLvl mem_KS) (level_cover KS kLvl mem_KS) f).trans
    (fam_list 128 tl 0 128 rfl tl_inj _)
  have e' := (Ring.pointsTo_blocks (Ix := Unit) (Name := ℕ) (U := UU nD τ) (Lvl := ℕ) (q := fullShare) (ℓ := (c : Thread nD τ).loc main_v16_1) BS (level_disjoint BS bLvl mem_BS) (level_cover BS bLvl mem_BS) g).trans
    (fam_list 128 tl 0 128 rfl tl_inj _)
  rw [e, e', ← bigSep_sep']
  refine bigSep_mono fun m _ => ?_
  change (_ : sProp 𝕄) ⊢ _
  unfold outTodo
  iintro ⟨H, H'⟩
  isplitl [H]
  · iexists f; iapply (ent_of_eq (congrArg (fun S => (((c : Thread nD τ).loc main_v16_0) ↦[S]{fullShare} f : sProp 𝕄)) (pkT_set (Fin.ofNat 128 (tl m))).symm)); iexact H
  · iexists g; iapply (ent_of_eq (congrArg (fun S => (((c : Thread nD τ).loc main_v16_1) ↦[S]{fullShare} g : sProp 𝕄)) (sbT_set (Fin.ofNat 128 (tl m))).symm)); iexact H'

/-- The results' arrays, of which every tile is what was computed. -/
def PkAll (X : Buf (Elt F) (xM.view.loc (c : Thread nD τ))) (pm eye : Vec F S256x256 .bf16) (f : Buf (Elt F) ((c : Thread nD τ).loc main_v16_0)) : Prop :=
  ∀ b : Fin 128, (pkT b).view.read (Elt F) f = pkTile X pm eye b.val
/-- Every tile of the block scales holds what was computed of it. -/
def SbAll (X : Buf (Elt F) (xM.view.loc (c : Thread nD τ))) (pm : Vec F S256x256 .bf16) (f : Buf (Elt F) ((c : Thread nD τ).loc main_v16_1)) : Prop :=
  ∀ b : Fin 128, (sbT b).view.read (Elt F) f = sbTile X pm b.val
/-- All tiles done make the two whole results. -/
theorem done_all (X : Buf (Elt F) (xM.view.loc (c : Thread nD τ))) (pm eye : Vec F S256x256 .bf16)
    (f₀ : Buf (Elt F) ((c : Thread nD τ).loc main_v16_0)) (g₀ : Buf (Elt F) ((c : Thread nD τ).loc main_v16_1)) :
    fam (outDone c X pm eye) 0 128 ⊢ (iprop((∃ f, ⌜PkAll c X pm eye f⌝ ∗ ((c : Thread nD τ).loc main_v16_0) ↦{fullShare} f)
      ∗ (∃ f, ⌜SbAll c X pm f⌝ ∗ ((c : Thread nD τ).loc main_v16_1) ↦{fullShare} f)) : sProp 𝕄) := by
  have j := blocks_join (Ix := Unit) (Name := ℕ) (U := UU nD τ) (Lvl := ℕ) (Val := Elt F) (ℓ := (c : Thread nD τ).loc main_v16_0) KS (level_disjoint KS kLvl mem_KS) (level_cover KS kLvl mem_KS)
    (fun b f => (pkT b).view.read (Elt F) f = pkTile X pm eye b.val)
    (fun b f g h hf => (View.read_congr (fun i hi => h i (pkT_set b ▸ hi))).trans hf) f₀
  have j' := blocks_join (Ix := Unit) (Name := ℕ) (U := UU nD τ) (Lvl := ℕ) (Val := Elt F) (ℓ := (c : Thread nD τ).loc main_v16_1) BS (level_disjoint BS bLvl mem_BS) (level_cover BS bLvl mem_BS)
    (fun b f => (sbT b).view.read (Elt F) f = sbTile X pm b.val)
    (fun b f g h hf => (View.read_congr (fun i hi => h i (sbT_set b ▸ hi))).trans hf) g₀
  rw [fam_list 128 tl 0 128 rfl tl_inj] at j j'
  refine BIBase.Entails.trans ?_ (BIClass.sep_mono j j')
  rw [← bigSep_sep']
  refine bigSep_mono fun m hm => ?_
  change (_ : sProp 𝕄) ⊢ _
  have hm' := (Finset.mem_Ico.mp hm).2
  have hv : (Fin.ofNat 128 (tl m)).val = tl m := Nat.mod_eq_of_lt (tl_lt hm')
  unfold outDone PkOK SbOK
  iintro ⟨⟨%g, %hg, H⟩, ⟨%g', %hg', H'⟩⟩
  isplitl [H]
  · iexists g
    isplitr; · ipureintro; rw [hv]; exact hg
    iapply (ent_of_eq (congrArg (fun S => (((c : Thread nD τ).loc main_v16_0) ↦[S]{fullShare} g : sProp 𝕄)) (pkT_set (Fin.ofNat 128 (tl m))))); iexact H
  · iexists g'
    isplitr; · ipureintro; rw [hv]; exact hg'
    iapply (ent_of_eq (congrArg (fun S => (((c : Thread nD τ).loc main_v16_1) ↦[S]{fullShare} g' : sProp 𝕄)) (sbT_set (Fin.ofNat 128 (tl m))))); iexact H'

/-- The ring, whole at anything, with its cells, is its slots. -/
theorem ring_eq : (bigSep Finset.univ (fun s : Fin 34 => iprop(∃ f, slotP c s f ∗ cellP c s)) : sProp 𝕄) = fam (idleF c) 0 34 :=
  fam_list 34 (fun k => k) 0 34 rfl (fun x y _ _ _ _ h => by omega) _
/-- The free ring slots as the steps after the last name them. -/
theorem ring_eq' : (bigSep Finset.univ (fun s : Fin 34 => iprop(∃ f, slotP c s f ∗ cellP c s)) : sProp 𝕄) = fam (idleF c) 256 290 :=
  fam_list 34 (fun k => k) 256 290 rfl (fun x y _ _ _ _ h => by omega) _
/-- The ring and its cells come apart into slots. -/
theorem ring_split (X : Buf (Elt F) (xM.view.loc (c : Thread nD τ))) :
    iprop((∃ f : Buf (Elt F) ((c : Thread nD τ).loc cc0_scratch0), ((c : Thread nD τ).loc cc0_scratch0) ↦{fullShare} f) ∗ bigSep Finset.univ (cellP c))
    ⊢ (fam (idleP c X) 0 34 : sProp 𝕄) := by
  iintro ⟨⟨%f, H⟩, Hc⟩
  iapply (show bigSep Finset.univ (fun s : Fin 34 => iprop(∃ f, slotP c s f ∗ cellP c s)) ⊢ (fam (idleP c X) 0 34 : sProp 𝕄) from by
    rw [ring_eq]
    refine bigSep_mono fun n hn => ?_
    change (_ : sProp 𝕄) ⊢ _
    have hn' := (Finset.mem_Ico.mp hn).2
    unfold idleF idleP
    iintro ⟨%g, Hs, Hc⟩
    iexists g
    isplitr; · ipureintro; intro h; omega
    isplitl [Hs]; · iexact Hs
    iexact Hc)
  iapply (show iprop((((c : Thread nD τ).loc cc0_scratch0) ↦{fullShare} f) ∗ bigSep Finset.univ (cellP c)) ⊢ (bigSep Finset.univ (fun s : Fin 34 => iprop(∃ f, slotP c s f ∗ cellP c s)) : sProp 𝕄) from by
    rw [Ring.pointsTo_blocks (ℓ := (c : Thread nD τ).loc cc0_scratch0) RS (level_disjoint RS rLvl mem_RS) (level_cover RS rLvl mem_RS) f, ← bigSep_sep']
    refine bigSep_mono fun s _ => ?_
    change (_ : sProp 𝕄) ⊢ _
    iintro ⟨H, Hc⟩
    iexists f
    isplitl [H]
    · iapply (ent_of_eq (congrArg (fun S => (((c : Thread nD τ).loc cc0_scratch0) ↦[S]{fullShare} f : sProp 𝕄)) (rslot_set s).symm)); iexact H
    · iexact Hc)
  isplitl [H]; · iexact H
  iexact Hc
/-- The slots make up the whole ring again. -/
theorem ring_join (f₀ : Buf (Elt F) ((c : Thread nD τ).loc cc0_scratch0)) :
    fam (idleF c) 256 290 ⊢ (iprop((∃ f : Buf (Elt F) ((c : Thread nD τ).loc cc0_scratch0), ((c : Thread nD τ).loc cc0_scratch0) ↦{fullShare} f) ∗ bigSep Finset.univ (cellP c)) : sProp 𝕄) := by
  rw [← ring_eq']
  refine BIBase.Entails.trans ?_ (BIClass.sep_mono (Ring.pointsTo_blocks_join_exists (ℓ := (c : Thread nD τ).loc cc0_scratch0) RS (level_disjoint RS rLvl mem_RS) (level_cover RS rLvl mem_RS) f₀) .rfl)
  rw [← bigSep_sep']
  refine bigSep_mono fun s _ => ?_
  change (_ : sProp 𝕄) ⊢ _
  iintro ⟨%f, H, Hc⟩
  isplitl [H]
  · iexists f; iapply (ent_of_eq (congrArg (fun S => (((c : Thread nD τ).loc cc0_scratch0) ↦[S]{fullShare} f : sProp 𝕄)) (rslot_set s))); iexact H
  · iexact Hc

/-- The buffers of result tiles, whole at anything, with their cells, are their slots. -/
abbrev freeS (s : Fin 3) : sProp 𝕄 := iprop((∃ f, pslP c s f ∗ pcellP c s) ∗ (∃ f, sslP c s f ∗ scellP c s))
/-- The free output slots as the first steps name them. -/
theorem out_eq : (bigSep Finset.univ (freeS (F := F) c) : sProp 𝕄) = fam (outFree c) 0 3 :=
  fam_list 3 (fun k => k) 0 3 rfl (fun x y _ _ _ _ h => by omega) _
/-- The free output slots as the steps after the last name them. -/
theorem out_eq' : (bigSep Finset.univ (freeS (F := F) c) : sProp 𝕄) = fam (outFree c) 128 131 :=
  fam_list 3 (fun k => k) 128 131 rfl (fun x y _ _ _ _ h => by omega) _
/-- The output buffers and their cells come apart into slots. -/
theorem out_split : iprop((∃ f : Buf (Elt F) ((c : Thread nD τ).loc cc0_scratch4), ((c : Thread nD τ).loc cc0_scratch4) ↦{fullShare} f)
      ∗ (∃ f : Buf (Elt F) ((c : Thread nD τ).loc cc0_scratch5), ((c : Thread nD τ).loc cc0_scratch5) ↦{fullShare} f) ∗ bigSep Finset.univ (pcellP c) ∗ bigSep Finset.univ (scellP c))
    ⊢ (fam (outFree c) 0 3 : sProp 𝕄) := by
  rw [← out_eq]
  iintro ⟨⟨%f, H⟩, ⟨%g, H'⟩, Hc, Hc'⟩
  iapply (show iprop((((c : Thread nD τ).loc cc0_scratch4) ↦{fullShare} f) ∗ (((c : Thread nD τ).loc cc0_scratch5) ↦{fullShare} g) ∗ bigSep Finset.univ (pcellP c) ∗ bigSep Finset.univ (scellP c)) ⊢ (bigSep Finset.univ (freeS c) : sProp 𝕄) from by
    rw [Ring.pointsTo_blocks (ℓ := (c : Thread nD τ).loc cc0_scratch4) PS (level_disjoint PS pLvl mem_PS) (level_cover PS pLvl mem_PS) f,
      Ring.pointsTo_blocks (ℓ := (c : Thread nD τ).loc cc0_scratch5) SS (level_disjoint SS sLvl mem_SS) (level_cover SS sLvl mem_SS) g, ← bigSep_sep', ← bigSep_sep', ← bigSep_sep']
    refine bigSep_mono fun s _ => ?_
    change (_ : sProp 𝕄) ⊢ _
    iintro ⟨H, H', Hc, Hc'⟩
    isplitl [H Hc]
    · iexists f
      isplitl [H]
      · iapply (ent_of_eq (congrArg (fun S => (((c : Thread nD τ).loc cc0_scratch4) ↦[S]{fullShare} f : sProp 𝕄)) (pslot_set s).symm)); iexact H
      · iexact Hc
    · iexists g
      isplitl [H']
      · iapply (ent_of_eq (congrArg (fun S => (((c : Thread nD τ).loc cc0_scratch5) ↦[S]{fullShare} g : sProp 𝕄)) (sslot_set s).symm)); iexact H'
      · iexact Hc')
  isplitl [H]; · iexact H
  isplitl [H']; · iexact H'
  isplitl [Hc]; · iexact Hc
  iexact Hc'
/-- The slots make up the whole output buffers again. -/
theorem out_join (f₀ : Buf (Elt F) ((c : Thread nD τ).loc cc0_scratch4)) (g₀ : Buf (Elt F) ((c : Thread nD τ).loc cc0_scratch5)) :
    fam (outFree c) 128 131 ⊢ (iprop((∃ f : Buf (Elt F) ((c : Thread nD τ).loc cc0_scratch4), ((c : Thread nD τ).loc cc0_scratch4) ↦{fullShare} f)
      ∗ (∃ f : Buf (Elt F) ((c : Thread nD τ).loc cc0_scratch5), ((c : Thread nD τ).loc cc0_scratch5) ↦{fullShare} f) ∗ bigSep Finset.univ (pcellP c) ∗ bigSep Finset.univ (scellP c)) : sProp 𝕄) := by
  rw [← out_eq']
  refine BIBase.Entails.trans ?_ (BIClass.sep_mono (Ring.pointsTo_blocks_join_exists (ℓ := (c : Thread nD τ).loc cc0_scratch4) PS (level_disjoint PS pLvl mem_PS) (level_cover PS pLvl mem_PS) f₀)
    (BIClass.sep_mono (Ring.pointsTo_blocks_join_exists (ℓ := (c : Thread nD τ).loc cc0_scratch5) SS (level_disjoint SS sLvl mem_SS) (level_cover SS sLvl mem_SS) g₀) .rfl))
  rw [← bigSep_sep', ← bigSep_sep', ← bigSep_sep']
  refine bigSep_mono fun s _ => ?_
  change (_ : sProp 𝕄) ⊢ _
  iintro ⟨⟨%f, H, Hc⟩, ⟨%g, H', Hc'⟩⟩
  isplitl [H]
  · iexists f; iapply (ent_of_eq (congrArg (fun S => (((c : Thread nD τ).loc cc0_scratch4) ↦[S]{fullShare} f : sProp 𝕄)) (pslot_set s))); iexact H
  isplitl [H']
  · iexists g; iapply (ent_of_eq (congrArg (fun S => (((c : Thread nD τ).loc cc0_scratch5) ↦[S]{fullShare} g : sProp 𝕄)) (sslot_set s))); iexact H'
  isplitl [Hc]; · iexact Hc
  iexact Hc'

/-- The body's own cells. -/
abbrev osem : Fin 34 ⊕ (Fin 3 ⊕ Fin 3) → SemLoc sig :=
  Sum.elim (fun s => .dma (inC s).sem) (Sum.elim (fun s => .dma (pkC s).sem) (fun s => .dma (sbC s).sem))
/-- The body's own semaphores are different and none is the pipeline's. -/
theorem ownSemFacts : Pipeline.OwnSemFacts spec0 osem := by decide +kernel
/-- The body's own semaphores as the cells of the slots. -/
theorem ownSems_eq : (Pipeline.ownSems0 (Ix := Unit) (Name := ℕ) (U := UU nD τ) (Lvl := ℕ) (Val := Elt F) (τ := τ) osem c : sProp 𝕄)
    = iprop(bigSep Finset.univ (cellP c) ∗ bigSep Finset.univ (pcellP c) ∗ bigSep Finset.univ (scellP c)) := by
  unfold Pipeline.ownSems0
  rw [bigSep_univ_sum, bigSep_univ_sum]; rfl
end Split

end Cert.KernelIdeal.Hand
-- ==== Proof.Ideal.Launch.lean ====
/-
  The launch: the whole program runs, every result tile ends as computed, the argument is left as it was.
-/
module

public import proofs.«01_k».proof.Proof.Ideal.Sets
public import proofs.«01_k».proof.Proof.Gen.KernelIdeal.Frame
public import Idealize.ShloMosaic.Lib.Pipeline.KitQuiescent

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- How the pipeline's own resources sit in the proof's. -/
abbrev EP : Emb (UR sig nD τ) (MT nD τ sig Unit (Elt F) ℕ (UU nD τ) ℕ) := embL

set_option maxHeartbeats 800000 in
/-- The program up to the kernel's call. -/
theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The array the body reads, at the body's entry. -/
abbrev XA (c : Dev nD) : Buf (Elt F) (xM.view.loc (c : Thread nD τ)) := V m c main_v0
/-- The staging buffer of the permutation table. -/
abbrev w0 (t : Fin cfg0.N) : Memref sig .tc .vmem S256x256 .bf16 := win0_0.stage (cfg0.slots t 0)
/-- The staging buffer of the identity table. -/
abbrev w1 (t : Fin cfg0.N) : Memref sig .tc .vmem S256x256 .bf16 := win0_1.stage (cfg0.slots t 1)
/-- The staging buffer of the global scale. -/
abbrev w2 (t : Fin cfg0.N) : Memref sig .tc .smem S1x1 .f32 := win0_2.stage (cfg0.slots t 2)
/-- The two tables as the body loads them. -/
def pmT (c : Dev nD) (t : Fin cfg0.N) : Vec F S256x256 .bf16 := tbl c (w0 t) ((w0 t).view.rep (iblk m c 0 t))
/-- The identity table as the body loads it. -/
def eyeT (c : Dev nD) (t : Fin cfg0.N) : Vec F S256x256 .bf16 := tbl c (w1 t) ((w1 t).view.rep (iblk m c 1 t))

/-- The body's plain buffers are whole. -/
theorem amax_any (c : Dev nD) : (iprop(∃ f : Buf (Elt F) ((c : Thread nD τ).loc cc0_scratch1), ((c : Thread nD τ).loc cc0_scratch1) ↦{fullShare} f) : sProp 𝕄) = iprop(∃ f, bufP c amaxM f) :=
  congrArg (fun S => (iprop(∃ f : Buf (Elt F) ((c : Thread nD τ).loc cc0_scratch1), ((c : Thread nD τ).loc cc0_scratch1) ↦[S]{fullShare} f) : sProp 𝕄)) (View.set_whole cc0_scratch1).symm
/-- The buffer of running maxima, at some contents, is held whole. -/
theorem gmax_any (c : Dev nD) : (iprop(∃ f : Buf (Elt F) ((c : Thread nD τ).loc cc0_scratch2), ((c : Thread nD τ).loc cc0_scratch2) ↦{fullShare} f) : sProp 𝕄) = iprop(∃ f, bufP c gmaxM f) :=
  congrArg (fun S => (iprop(∃ f : Buf (Elt F) ((c : Thread nD τ).loc cc0_scratch2), ((c : Thread nD τ).loc cc0_scratch2) ↦[S]{fullShare} f) : sProp 𝕄)) (View.set_whole cc0_scratch2).symm
/-- The buffer of reciprocals, at some contents, is held whole. -/
theorem rbuf_any (c : Dev nD) : (iprop(∃ f : Buf (Elt F) ((c : Thread nD τ).loc cc0_scratch3), ((c : Thread nD τ).loc cc0_scratch3) ↦{fullShare} f) : sProp 𝕄) = iprop(∃ f, bufP c rbufM f) :=
  congrArg (fun S => (iprop(∃ f : Buf (Elt F) ((c : Thread nD τ).loc cc0_scratch3), ((c : Thread nD τ).loc cc0_scratch3) ↦[S]{fullShare} f) : sProp 𝕄)) (View.set_whole cc0_scratch3).symm

/-- What the body holds besides the staged arrays, before it runs and after. -/
def Φ0 (c : Dev nD) : sProp 𝕄 :=
  iprop((∃ f, bufP c amaxM f) ∗ (∃ f, bufP c gmaxM f) ∗ (∃ f, bufP c rbufM f)
    ∗ fam (homeP c (XA m c)) 0 128 ∗ fam (idleP c (XA m c)) 0 34 ∗ fam (outFree c) 0 3 ∗ fam (outTodo c) 0 128)
/-- What the body holds after it has run. -/
def Φ1 (c : Dev nD) : sProp 𝕄 :=
  iprop((∃ f, bufP c amaxM f) ∗ (∃ f, bufP c gmaxM f) ∗ (∃ f, bufP c rbufM f)
    ∗ fam (homeP c (XA m c)) 0 128 ∗ fam (idleF c) 256 290 ∗ fam (outFree c) 128 131 ∗ fam (outDone c (XA m c) (pmT m c t0_0) (eyeT m c t0_0)) 0 128)
/-- What is held before and after the one grid point. -/
def ΦAt (c : Dev nD) : ℕ → sProp 𝕄
  | 0 => Φ0 m c
  | _ + 1 => Φ1 m c

/-- The proof data of the launch: the arrays at entry and what the body leaves in each staging buffer. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => fun _ => k0_pay215 (gm (XA m c) (pmT m c t))
  Φ t := ΦAt m c t.val
  q _ := fullShare
  owed _ := 0

/-- The first table's buffer holds its block before the body. -/
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
/-- The second table's buffer holds its block before the body. -/
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
/-- The first table's buffer is left as it was. -/
theorem after_w0 (c : Dev nD) (t : Fin cfg0.N) : (dats m 0 c).after 0 t = iblk m c 0 t := by dsimp only [dats]
/-- The second table's buffer is left as it was. -/
theorem after_w1 (c : Dev nD) (t : Fin cfg0.N) : (dats m 0 c).after 1 t = iblk m c 1 t := by dsimp only [dats]
/-- The third buffer is left at the global scale. -/
theorem after_w2 (c : Dev nD) (t : Fin cfg0.N) : (dats m 0 c).after 2 t = fun _ => k0_pay215 (gm (XA m c) (pmT m c t)) := by dsimp only [dats]

/-- The body's entry in the table of functions. -/
theorem defs_tc : (defs₀ (F := F)) .tc cfg0.body
    = fun a => bodyG (win0_0.stage (a.2 0)) (hstage0_0 0) (win0_1.stage (a.2 1)) (hstage0_1 0) (win0_2.stage (a.2 2)) (hstage0_2 0) := rfl
/-- The body as called at the one grid point. -/
theorem prog_eq (t : Fin cfg0.N) : (defs₀ (F := F)) .tc cfg0.body (cfg0.bodyArgs t (cfg0.slots t))
    = bodyG (w0 t) (hstage0_0 0) (w1 t) (hstage0_1 0) (w2 t) (hstage0_2 0) :=
  (congrFun defs_tc _).trans rfl

set_option backward.isDefEq.respectTransparency.types false in
/-- The body runs at the grid's one point. -/
theorem body_obligation (c : Dev nD) : BodyObligation (dats (F := F) m 0 c) (defs₀ (F := F)) 𝒱₀ () Set.univ := fun t => by
  obtain rfl : t = t0_0 := fin_N0 t
  rw [bigSep_W0, bigSep_W0]
  dsimp only
  simp only [before_w0, before_w1, after_w0, after_w1, after_w2]
  rw [show (dats m 0 c).Φ (Fin.castSucc t0_0) = Φ0 m c from rfl, show (dats m 0 c).Φ (Fin.succ t0_0) = Φ1 m c from rfl]
  unfold Dat.owesAt Pipeline.owesWithin
  rw [show (dats m 0 c).owed (Fin.castSucc t0_0) = 0 from rfl, show (dats m 0 c).owed (Fin.succ t0_0) = 0 from rfl]
  unfold owns Φ0 Φ1
  iintro ⟨⟨Ha, Hg, Hr, Hh, Hi, Hf, Ht⟩, ⟨%W, -, HW⟩, ⟨%d0, %g0, %hg0, H0⟩, ⟨%d1, %g1, %hg1, H1⟩, ⟨%d2, %g2, -, H2⟩⟩
  ihave H0' := (pointsTo_rep_entails (c : Thread nD τ) (w0 t0_0) g0 fullShare) $$ H0
  rw [hg0]
  ihave H1' := (pointsTo_rep_entails (c : Thread nD τ) (w1 t0_0) g1 fullShare) $$ H1
  rw [hg1]
  sl_rw [prog_eq t0_0]
  iapply (bodyRun c (XA m c) (w0 t0_0) (hstage0_0 0) (w1 t0_0) (hstage0_1 0) (w2 t0_0) (hstage0_2 0) _ _ W)
  unfold PRE POST
  isplitl [H0' H1' H2 Ha Hg Hr Hh Hi Hf Ht HW]
  · isplitl [H0']; · iexact H0'
    isplitl [H1']; · iexact H1'
    isplitl [H2]; · iexists g2; iexact H2
    isplitl [Ha]; · iexact Ha
    isplitl [Hg]; · iexact Hg
    isplitl [Hr]; · iexact Hr
    isplitl [Hh]; · iexact Hh
    isplitl [Hi]; · iexact Hi
    isplitl [Hf]; · iexact Hf
    isplitl [Ht]; · iexact Ht
    iexact HW
  · iintro ⟨H0, H1, ⟨%f2, %hf2, H2⟩, Ha, Hg, Hr, Hh, Hi, Hf, Hd, ⟨%W', HW⟩⟩
    isplitl [Ha Hg Hr Hh Hi Hf Hd]
    · isplitl [Ha]; · iexact Ha
      isplitl [Hg]; · iexact Hg
      isplitl [Hr]; · iexact Hr
      isplitl [Hh]; · iexact Hh
      isplitl [Hi]; · iexact Hi
      isplitl [Hf]; · iexact Hf
      iexact Hd
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    iexists f2; isplitr; · ipureintro; exact hf2
    iexact H2

/-! ## The run -/

/-- What goes into the launch besides the staged arrays. -/
def intoΦ (c : Dev nD) : sProp 𝕄 :=
  iprop(fam (homeP c (XA m c)) 0 128 ∗ fam (outTodo c) 0 128 ∗ Pipeline.ownSems0 osem c)
/-- What comes out of the launch besides the staged arrays. -/
def outOfΦ (c : Dev nD) : sProp 𝕄 :=
  iprop((∃ f, ⌜PkAll c (XA m c) (pmT m c t0_0) (eyeT m c t0_0) f⌝ ∗ ((c : Thread nD τ).loc main_v16_0) ↦{fullShare} f)
    ∗ (∃ f, ⌜SbAll c (XA m c) (pmT m c t0_0) f⌝ ∗ ((c : Thread nD τ).loc main_v16_1) ↦{fullShare} f))
/-- The argument, as it was at the start. -/
def argΦ (c : Dev nD) : sProp 𝕄 := ((c : Thread nD τ).loc main_arg0) ↦{fullShare} m ((c : Thread nD τ).loc main_arg0)
/-- The resources at the start. -/
def u₀ : UU nD τ := (initOf (Pipeline.cells cfgs cellOf_inj) (Pipeline.launchToks cfgs cellOf_inj), 1)
/-- What the final memory holds on core `c` outside the staged arrays. -/
def QY (c : Dev nD) (s : MemSt nD τ sig (Elt F)) : Prop :=
  s.mem ((c : Thread nD τ).loc main_arg0) = m ((c : Thread nD τ).loc main_arg0)
    ∧ PkAll c (XA m c) (pmT m c t0_0) (eyeT m c t0_0) (s.mem ((c : Thread nD τ).loc main_v16_0))
    ∧ SbAll c (XA m c) (pmT m c t0_0) (s.mem ((c : Thread nD τ).loc main_v16_1))
/-- A staged array after the run. -/
def finalA (c : Dev nD) (w : Fin cfg0.W) : Buf (Elt F) ((cfg0.win w).arr.view.loc (c : Thread nD τ)) := (dats m 0 c).arrAt w cfg0.N
/-- What holds of the final state: the staged arrays and the two results that the body transfers itself. -/
def QC : PUnit × MemSt nD τ sig (Elt F) → Prop := fun r =>
  ∀ c : Dev nD, (∀ w : Fin cfg0.W, r.2.mem ((cfg0.win w).arr.view.loc (c : Thread nD τ)) = finalA m c w) ∧ QY m c r.2

set_option maxHeartbeats 1000000 in
set_option backward.isDefEq.respectTransparency.types false in
/-- Every execution of the program ends; the argument is unchanged, each tile of the codes and of the scales is what
was computed of it, the staged arrays are at their final contents, every semaphore counter is at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := intoΦ m) (Y := outOfΦ m) (Z := argΦ m)
    (hX := fun c => by
      rw [unscopedRest0_eq]
      unfold intoΦ argΦ
      iintro ⟨⟨Ha, Hx, -, -, -, -, -, -, -, -, -, -, -, -, -, -, -, -, Hp, Hs⟩, HS, -, -, -⟩; imodintro
      isplitr [Ha]
      · isplitl [Hx]; · iapply (ent_of_eq (x_eq c (XA m c))); iexact Hx
        isplitl [Hp Hs]
        · iapply (todo_of c (V m c main_v16_0) (V m c main_v16_1))
          isplitl [Hp]; · iexact Hp
          iexact Hs
        iexact HS
      irw [← V_main_arg0 m c]
      iexact Ha)
    (hin := fun c => by
      rw [scopedRest0_eq, amax_any, gmax_any, rbuf_any, show (dats m 0 c).Φ 0 = Φ0 m c from rfl]
      unfold intoΦ Φ0; rw [ownSems_eq]
      iintro ⟨⟨Hh, Ht, Hc, Hpc, Hsc⟩, H0, H1, H2, H3, H4, H5⟩
      isplitl [H1]; · iexact H1
      isplitl [H2]; · iexact H2
      isplitl [H3]; · iexact H3
      isplitl [Hh]; · iexact Hh
      isplitl [H0 Hc]
      · iapply (ring_split c (XA m c))
        isplitl [H0]; · iexact H0
        iexact Hc
      isplitl [H4 H5 Hpc Hsc]
      · iapply (out_split c)
        isplitl [H4]; · iexact H4
        isplitl [H5]; · iexact H5
        isplitl [Hpc]; · iexact Hpc
        iexact Hsc
      iexact Ht)
    (hout := fun c => by
      rw [scopedRest0_eq, amax_any, gmax_any, rbuf_any, show (dats m 0 c).Φ (Fin.last cfg0.N) = Φ1 m c from rfl, ownSems_eq]
      unfold Φ1 outOfΦ
      iintro ⟨H1, H2, H3, -, Hi, Hf, Hd⟩
      ihave Hi := (ring_join c (fun _ => default)) $$ Hi
      icases Hi with ⟨H0, Hc⟩
      ihave Hf := (out_join c (fun _ => default) (fun _ => default)) $$ Hf
      icases Hf with ⟨H4, H5, Hpc, Hsc⟩
      isplitl [Hd]; · iapply (done_all c _ _ _ (V m c main_v16_0) (V m c main_v16_1)); iexact Hd
      isplitl [Hc Hpc Hsc]
      · isplitl [Hc]; · iexact Hc
        isplitl [Hpc]; · iexact Hpc
        iexact Hsc
      isplitl [H0]; · iexact H0
      isplitl [H1]; · iexact H1
      isplitl [H2]; · iexact H2
      isplitl [H3]; · iexact H3
      isplitl [H4]; · iexact H4
      iexact H5)
    (QY := QY m)
    (hY := fun c s' => by
      unfold outOfΦ argΦ
      iintro ⟨⟨⟨%f, %hf, Hp⟩, ⟨%g, %hg, Hs⟩⟩, Ha, HSI⟩
      icombine HSI Ha gives %ha
      icombine HSI Hp gives %hp
      icombine HSI Hs gives %hs
      imodintro
      isplitr
      · ipureintro
        have ea := Buf.eq_of_forall_mem_univ ha
        have ep := Buf.eq_of_forall_mem_univ hp
        have es := Buf.eq_of_forall_mem_univ hs
        exact ⟨ea, ep ▸ hf, es ▸ hg⟩
      iexact HSI)
    (hQ := fun _ hh hz => ⟨hh, hz⟩)

end Cert.KernelIdeal.Hand
-- ==== Proof.Frames.lean ====
/-
  The three frame claims: each program runs, ends, leaves its argument as it was and every semaphore at zero.
-/
module

public import proofs.«01_k».proof.Defs
public import proofs.«01_k».proof.Proof.Same
public import proofs.«01_k».proof.Proof.Ideal.Launch
public import proofs.«01_k».proof.Proof.Gen.ReferenceIdeal.Frame

@[expose] public section

noncomputable section

namespace Cert.Frames

open Idealize.ShloMosaic Idealize.ShloMosaic.TcCoe Idealize.SL.Sem

variable {F : FTy → Type} [FloatOps F]

/-- The kernel's program at any numbers: it ends, the argument unchanged, every counter at zero. -/
theorem ideal_any (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run _ _ _).mono (fun _ h => ⟨fun c => (h.1 c).2.1, h.2⟩) (Cert.KernelIdeal.Hand.run_main m g)
/-- The kernel's program over the extended reals ends, its argument unchanged, every counter at zero. -/
theorem kernelIdeal : Cert.quiescent_KernelIdeal := fun m g _ => ideal_any m g
/-- The same program under the kernel's own names. -/
theorem kernel : Cert.quiescent_Kernel := fun m g _ => by
  have h := ideal_any (F := Bits) m g
  rw [← Cert.Same.defs_eq, ← Cert.Same.main_eq] at h
  exact h
/-- The reference's program over the extended reals ends, its argument unchanged, every counter at zero. -/
theorem referenceIdeal : Cert.quiescent_ReferenceIdeal := fun m g _ => Cert.ReferenceIdeal.Gen.frame m g

end Cert.Frames
-- ==== Proof.Value.Words.lean ====
/-
  Eight four-bit codes in one word: clearing the sign of the codes whose magnitude is zero, and the word's
  bytes.
-/
module

public import Idealize.ShloMosaic.Lib.Pointwise
public import Idealize.ShloMosaic.Lib.BitcastPair
public import proofs.«01_k».proof.Proof.Ideal.Codes

@[expose] public section

set_option maxRecDepth 16384

noncomputable section

namespace Cert.Value

open Idealize.ShloMosaic

open Cert.KernelIdeal Cert.KernelIdeal.Gen

/-- A four-bit code with its sign bit cleared when its magnitude is zero. -/
def clr (n : ℕ) : ℕ := if n % 8 = 0 then 0 else n

/-- `and` of two numbers, digit by digit in base sixteen. -/
theorem and_digit (a b m n : ℕ) (ha : a < 16) (hm : m < 16) : (a + 16 * b) &&& (m + 16 * n) = (a &&& m) + 16 * (b &&& n) := by
  have h : a &&& m < 2 ^ 4 := Nat.and_lt_two_pow _ hm
  have e1 : a + 16 * b = 2 ^ 4 * b + a := by omega
  have e2 : m + 16 * n = 2 ^ 4 * n + m := by omega
  have e3 : (a &&& m) + 16 * (b &&& n) = 2 ^ 4 * (b &&& n) + (a &&& m) := by omega
  rw [e1, e2, e3]
  refine Nat.eq_of_testBit_eq fun i => ?_
  rw [Nat.testBit_and, Nat.testBit_two_pow_mul_add _ ha, Nat.testBit_two_pow_mul_add _ hm, Nat.testBit_two_pow_mul_add _ h]
  split <;> simp

/-- `or` of two numbers, digit by digit in base sixteen. -/
theorem or_digit (a b m n : ℕ) (ha : a < 16) (hm : m < 16) : (a + 16 * b) ||| (m + 16 * n) = (a ||| m) + 16 * (b ||| n) := by
  have h : a ||| m < 2 ^ 4 := Nat.or_lt_two_pow ha hm
  have e1 : a + 16 * b = 2 ^ 4 * b + a := by omega
  have e2 : m + 16 * n = 2 ^ 4 * n + m := by omega
  have e3 : (a ||| m) + 16 * (b ||| n) = 2 ^ 4 * (b ||| n) + (a ||| m) := by omega
  rw [e1, e2, e3]
  refine Nat.eq_of_testBit_eq fun i => ?_
  rw [Nat.testBit_or, Nat.testBit_two_pow_mul_add _ ha, Nat.testBit_two_pow_mul_add _ hm, Nat.testBit_two_pow_mul_add _ h]
  split <;> simp

/-- The number whose base sixteen digits are `f 0`, `f 1`, … of `n` digits. -/
def digits (f : ℕ → ℕ) : ℕ → ℕ
  | 0 => 0
  | n + 1 => f 0 + 16 * digits (fun k => f (k + 1)) n

/-- The bitwise and of two words of four-bit digits, digit by digit. -/
theorem digits_and (f g : ℕ → ℕ) (hf : ∀ k, f k < 16) (hg : ∀ k, g k < 16) (n : ℕ) :
    digits f n &&& digits g n = digits (fun k => f k &&& g k) n := by
  induction n generalizing f g with
  | zero => simp [digits]
  | succ n ih => simp only [digits]; rw [and_digit _ _ _ _ (hf 0) (hg 0), ih _ _ (fun k => hf _) (fun k => hg _)]

/-- The bitwise or of two words of four-bit digits, digit by digit. -/
theorem digits_or (f g : ℕ → ℕ) (hf : ∀ k, f k < 16) (hg : ∀ k, g k < 16) (n : ℕ) :
    digits f n ||| digits g n = digits (fun k => f k ||| g k) n := by
  induction n generalizing f g with
  | zero => simp [digits]
  | succ n ih => simp only [digits]; rw [or_digit _ _ _ _ (hf 0) (hg 0), ih _ _ (fun k => hf _) (fun k => hg _)]

/-- The sum of two words of digits, digit by digit. -/
theorem digits_add (f g : ℕ → ℕ) (n : ℕ) : digits f n + digits g n = digits (fun k => f k + g k) n := by
  induction n generalizing f g with
  | zero => rfl
  | succ n ih => simp only [digits]; rw [← ih]; omega

/-- A word of `n` four-bit digits is below `16 ^ n`. -/
theorem digits_lt (f : ℕ → ℕ) (hf : ∀ k, f k < 16) (n : ℕ) : digits f n < 16 ^ n := by
  induction n generalizing f with
  | zero => simp [digits]
  | succ n ih => simp only [digits]; have := ih (fun k => f (k + 1)) (fun k => hf _); have := hf 0; rw [Nat.pow_succ]; omega

/-- The masking clears the sign of a zero magnitude and nothing else. -/
theorem clr_eq : ∀ n, n < 16 → (n &&& (((n &&& 7) + 7) ||| 7)) = clr n := by decide

/-- A digit whose zero is cleared is still below 16. -/
theorem clr_lt {n : ℕ} (h : n < 16) : clr n < 16 := by unfold clr; split <;> omega

/-- The mask applied to a word of eight codes clears each code whose magnitude is zero. -/
theorem mask_word (x : BitVec 32) (f : ℕ → ℕ) (hf : ∀ k, f k < 16) (hx : x.toNat = digits f 8) :
    (IntOp.andi x (IntOp.ori (IntOp.addi (IntOp.andi x 2004318071#32) 2004318071#32) 2004318071#32)).toNat
      = digits (fun k => clr (f k)) 8 := by
  have h7 : ∀ k, f k &&& 7 < 8 := fun k => Nat.lt_of_le_of_lt Nat.and_le_right (by omega)
  have hk : (2004318071#32 : BitVec 32).toNat = digits (fun _ => 7) 8 := by decide
  have ha : (x &&& 2004318071#32).toNat = digits (fun k => f k &&& 7) 8 := by
    rw [BitVec.toNat_and, hx, hk, digits_and _ _ hf (fun _ => by omega)]
  have hb : ((x &&& 2004318071#32) + 2004318071#32).toNat = digits (fun k => (f k &&& 7) + 7) 8 := by
    rw [BitVec.toNat_add, ha, hk, digits_add]
    have hl := digits_lt (fun k => (f k &&& 7) + 7) (fun k => by have := h7 k; omega) 8
    rw [show (16 : ℕ) ^ 8 = 2 ^ 32 by norm_num] at hl
    exact Nat.mod_eq_of_lt hl
  have hc : (((x &&& 2004318071#32) + 2004318071#32) ||| 2004318071#32).toNat = digits (fun k => ((f k &&& 7) + 7) ||| 7) 8 := by
    rw [BitVec.toNat_or, hb, hk, digits_or _ _ (fun k => by have := h7 k; omega) (fun _ => by omega)]
  have hd : (x &&& (((x &&& 2004318071#32) + 2004318071#32) ||| 2004318071#32)).toNat = digits (fun k => f k &&& (((f k &&& 7) + 7) ||| 7)) 8 := by
    rw [BitVec.toNat_and, hx, hc, digits_and _ _ hf (fun k => Nat.or_lt_two_pow (n := 4) (by have := h7 k; omega) (by omega))]
  have he : (fun k => f k &&& (((f k &&& 7) + 7) ||| 7)) = fun k => clr (f k) := funext fun k => clr_eq _ (hf k)
  rw [he] at hd
  exact hd

/-- Byte `q` of a word of eight codes holds two of them. -/
theorem digits_byte (f : ℕ → ℕ) (hf : ∀ k, f k < 16) (q : ℕ) (hq : q < 4) :
    (digits f 8 / 2 ^ (8 * q)) % 2 ^ 8 = f (2 * q) + 16 * f (2 * q + 1) := by
  have h0 := hf 0; have h1 := hf 1; have h2 := hf 2; have h3 := hf 3
  have h4 := hf 4; have h5 := hf 5; have h6 := hf 6; have h7 := hf 7
  simp only [digits, Nat.zero_add, Nat.reduceAdd]
  obtain rfl | rfl | rfl | rfl : q = 0 ∨ q = 1 ∨ q = 2 ∨ q = 3 := by omega
  all_goals simp only [Nat.reduceMul, Nat.reducePow, Nat.reduceAdd]; omega

/-- Words read as bytes: row `l` of the bytes is byte `l % 4` of row `l / 4` of the words. -/
theorem bytes_at (x : S32x256.Idx → BitVec 32) (h : S32x256.Bitcasts 32 S128x256 8) (l : Fin 128) (q : Fin 256) :
    (bitcast S128x256 8 x h (ix2 l q)).toNat = (x (ix2 (⟨l.val / 4, by omega⟩ : Fin 32) q)).toNat / 2 ^ (8 * (l.val % 4)) % 2 ^ 8 := by
  have e : bitcast S128x256 8 x h (ix2 l q) = (x (ix2 (⟨l.val / 4, by omega⟩ : Fin 32) q)).extractLsb' (8 * (l.val % 4)) 8 := by
    refine BitVec.eq_of_getLsbD_eq fun b hb => ?_
    rw [bitcast_getLsbD x h _ b hb (by decide), BitVec.getLsbD_extractLsb']
    have hr : S128x256.row (ix2 l q) = l.val := rfl
    have e2 : (S128x256.row (ix2 l q) * 8 + b) % 32 = 8 * (l.val % 4) + b := by rw [hr]; omega
    have e1 : (S128x256.row (ix2 l q) * 8 + b) / 32 = l.val / 4 := by rw [hr]; omega
    rw [e2]
    simp only [hb, decide_true, Bool.true_and]
    congr 2
    funext c
    match c with
    | ⟨0, _⟩ => exact Fin.ext ((h.srcIdx_row _ _ _ ⟨0, Nat.zero_lt_two⟩ rfl).trans e1)
    | ⟨1, _⟩ => exact Fin.ext (h.srcIdx_other _ _ _ ⟨1, Nat.one_lt_two⟩ (by show ¬ 1 + 2 = 2; omega))
  rw [e, BitVec.extractLsb'_toNat, Nat.shiftRight_eq_div_pow]

/-- The shift of row `n` of a block of codes. -/
theorem shift_at (a : Fin 32) (x : Fin 8) (l : Fin 256) (h : a.val * 8 + x.val < 256) :
    (k0_pay48 (ix2 (⟨a.val * 8 + x.val, h⟩ : Fin 256) l) : BitVec 32) = BitVec.ofNat 32 (4 * x.val) := by
  pointwise [k0_pay48]
  refine BitVec.eq_of_toNat_eq ?_
  show (((BitVec.ofNat 32 (a.val * 8 + x.val)) &&& 7#32) * 4#32).toNat = _
  rw [BitVec.toNat_mul, BitVec.toNat_and, BitVec.toNat_ofNat, BitVec.toNat_ofNat, BitVec.toNat_ofNat, BitVec.toNat_ofNat]
  have e : (a.val * 8 + x.val) % 2 ^ 32 &&& (7 % 2 ^ 32) = x.val := by
    rw [Nat.mod_eq_of_lt (by omega), show (7 : ℕ) % 2 ^ 32 = 2 ^ 3 - 1 by norm_num, Nat.and_two_pow_sub_one_eq_mod]
    omega
  rw [e]
  omega

/-- A four-bit code moved up `k` digits. -/
theorem shl_digit (c : BitVec 32) (hc : c.toNat < 16) (k : ℕ) (hk : k < 8) :
    (IntOp.shli ArithUnit.vector c (BitVec.ofNat 32 (4 * k))).toNat = c.toNat * 16 ^ k := by
  have hs : (BitVec.ofNat 32 (4 * k)).toNat = 4 * k := by rw [BitVec.toNat_ofNat]; omega
  unfold IntOp.shli
  rw [hs, if_pos (by omega)]
  show (c <<< (BitVec.ofNat 32 (4 * k)).toNat).toNat = _
  rw [hs, BitVec.toNat_shiftLeft, Nat.shiftLeft_eq, Nat.pow_mul, show (2 : ℕ) ^ 4 = 16 by norm_num]
  refine Nat.mod_eq_of_lt ?_
  calc c.toNat * 16 ^ k < 16 * 16 ^ k := Nat.mul_lt_mul_of_pos_right hc (by positivity)
    _ ≤ 16 * 16 ^ 7 := Nat.mul_le_mul_left _ (Nat.pow_le_pow_right (by norm_num) (by omega))
    _ = 2 ^ 32 := by norm_num

/-- Eight words added up. -/
theorem fold_eight (f : Fin 8 → BitVec 32) :
    Finset.fold IntOp.addi 0#32 f Finset.univ = f 0 + (f 1 + (f 2 + (f 3 + (f 4 + (f 5 + (f 6 + (f 7 + 0#32))))))) := rfl

/-- Eight rows of codes added into one word. -/
theorem word_at (v : IVec S256x256 32) (hv : ∀ j, (v j).toNat < 16) (a : Fin 32) (l : Fin 256) :
    (multiReductionI .add [1] S32x256 (shapeCast S32x8x256 (shli v k0_pay48) shapeCasts_S256x256_S32x8x256) 0#32 reduces_S32x8x256_S32x256 rfl (ix2 a l)).toNat
      = digits (fun k => (v (ix2 (Fin.ofNat 256 (a.val * 8 + k)) l)).toNat) 8 := by
  pointwise
  have e : (fun x : Fin 8 => IntOp.shli ArithUnit.vector (v (ix2 (⟨a.val * 8 + x.val, by omega⟩ : Fin 256) l)) (k0_pay48 (ix2 (⟨a.val * 8 + x.val, by omega⟩ : Fin 256) l)))
      = fun x => IntOp.shli ArithUnit.vector (v (ix2 (Fin.ofNat 256 (a.val * 8 + x.val)) l)) (BitVec.ofNat 32 (4 * x.val)) := by
    funext x
    rw [shift_at]
    congr 3
    exact Fin.ext (Nat.mod_eq_of_lt (by show a.val * 8 + x.val < 256; omega)).symm
  rw [e]
  rw [fold_eight]
  have g : ∀ k, (v (ix2 (Fin.ofNat 256 (a.val * 8 + k)) l)).toNat < 16 := fun k => hv _
  generalize hc : (fun k => v (ix2 (Fin.ofNat 256 (a.val * 8 + k)) l)) = c at *
  have hc' : ∀ k, v (ix2 (Fin.ofNat 256 (a.val * 8 + k)) l) = c k := fun k => congrFun hc k
  simp only [hc'] at g ⊢
  have h0 := g 0; have h1 := g 1; have h2 := g 2; have h3 := g 3
  have h4 := g 4; have h5 := g 5; have h6 := g 6; have h7 := g 7
  have s0 := shl_digit _ h0 0 (by omega); have s1 := shl_digit _ h1 1 (by omega)
  have s2 := shl_digit _ h2 2 (by omega); have s3 := shl_digit _ h3 3 (by omega)
  have s4 := shl_digit _ h4 4 (by omega); have s5 := shl_digit _ h5 5 (by omega)
  have s6 := shl_digit _ h6 6 (by omega); have s7 := shl_digit _ h7 7 (by omega)
  simp only [Fin.val_zero, Fin.val_one, Fin.val_two, show (3 : Fin 8).val = 3 from rfl, show (4 : Fin 8).val = 4 from rfl,
    show (5 : Fin 8).val = 5 from rfl, show (6 : Fin 8).val = 6 from rfl, show (7 : Fin 8).val = 7 from rfl, BitVec.toNat_add,
    s0, s1, s2, s3, s4, s5, s6, s7, digits, Nat.zero_add, Nat.reduceAdd]
  norm_num
  omega

/-- A packed byte holds the codes of two neighbouring columns, the sign of each cleared when its magnitude is zero. -/
theorem pay49_at (v : IVec S256x256 32) (hv : ∀ j, (v j).toNat < 16) (q : Fin 256) (l : Fin 128) :
    (k0_pay49 v k0_pay48 (ix3 0 q l) : BitVec 8).toNat
      = clr (v (ix2 (⟨2 * l.val, by omega⟩ : Fin 256) q)).toNat + 16 * clr (v (ix2 (⟨2 * l.val + 1, by omega⟩ : Fin 256) q)).toNat := by
  have e : (k0_pay49 v k0_pay48 (ix3 0 q l) : BitVec 8)
      = bitcast S128x256 8 (fun j => IntOp.andi (multiReductionI .add [1] S32x256 (shapeCast S32x8x256 (shli v k0_pay48) shapeCasts_S256x256_S32x8x256) 0#32 reduces_S32x8x256_S32x256 rfl j)
          (IntOp.ori (IntOp.addi (IntOp.andi (multiReductionI .add [1] S32x256 (shapeCast S32x8x256 (shli v k0_pay48) shapeCasts_S256x256_S32x8x256) 0#32 reduces_S32x8x256_S32x256 rfl j) 2004318071#32) 2004318071#32) 2004318071#32))
        bitcasts_S32x256_w32_S128x256_w8 (ix2 l q) := by
    unfold k0_pay49
    dsimp only
    have t : ∀ (w : IVec S128x256 8), shapeCast S1x256x128 (transpose S256x128 [1, 0] w transposes_S128x256_p1_0_S256x128) shapeCasts_S256x128_S1x256x128 (ix3 0 q l) = w (ix2 l q) := by
      intro w
      pointwise
    rw [t]
    rfl
  rw [e, bytes_at, mask_word _ _ (fun k => hv _) (word_at v hv _ _), digits_byte _ (fun k => clr_lt (hv _)) _ (by omega)]
  congr 4
  · congr 1
    exact Fin.ext (show (l.val / 4 * 8 + 2 * (l.val % 4)) % 256 = 2 * l.val by omega)
  · congr 4
    exact Fin.ext (show (l.val / 4 * 8 + (2 * (l.val % 4) + 1)) % 256 = 2 * l.val + 1 by omega)

end Cert.Value
-- ==== Proof.Value.Elem.lean ====
/-
  One element's code: what the sums of comparisons give, and that limiting the element to the interval from
  minus six to six first does not change it.
-/
module

public import Idealize.ShloMosaic.Lib.Pointwise
public import Idealize.ShloMosaic.PureOps.Ideal.Laws
public import proofs.«01_k».proof.Proof.Value.Words

@[expose] public section

set_option maxRecDepth 16384

noncomputable section

namespace Cert.Value

open Idealize.ShloMosaic

/-- The pattern of minus infinity. -/
theorem c_bot : (Ideal.ofBits .f32 0xFF800000#32 : EReal) = ⊥ := by
  simp [Ideal.ofBits, Ideal.ieee]
/-- The pattern of one quarter. -/
theorem c_3E800000 : (Ideal.ofBits .f32 0x3E800000#32 : EReal) = ((1/4 : ℝ) : EReal) := by
  simp [Ideal.ofBits, Ideal.ieee, -EReal.coe_mul]; norm_num
/-- The pattern of three quarters. -/
theorem c_3F400000 : (Ideal.ofBits .f32 0x3F400000#32 : EReal) = ((3/4 : ℝ) : EReal) := by
  simp [Ideal.ofBits, Ideal.ieee, -EReal.coe_mul]; norm_num
/-- The pattern of five quarters. -/
theorem c_3FA00000 : (Ideal.ofBits .f32 0x3FA00000#32 : EReal) = ((5/4 : ℝ) : EReal) := by
  simp [Ideal.ofBits, Ideal.ieee, -EReal.coe_mul]; norm_num
/-- The pattern of seven quarters. -/
theorem c_3FE00000 : (Ideal.ofBits .f32 0x3FE00000#32 : EReal) = ((7/4 : ℝ) : EReal) := by
  simp [Ideal.ofBits, Ideal.ieee, -EReal.coe_mul]; norm_num
/-- The pattern of five halves. -/
theorem c_40200000 : (Ideal.ofBits .f32 0x40200000#32 : EReal) = ((5/2 : ℝ) : EReal) := by
  simp [Ideal.ofBits, Ideal.ieee, -EReal.coe_mul]; norm_num
/-- The pattern of seven halves. -/
theorem c_40600000 : (Ideal.ofBits .f32 0x40600000#32 : EReal) = ((7/2 : ℝ) : EReal) := by
  simp [Ideal.ofBits, Ideal.ieee, -EReal.coe_mul]; norm_num
/-- The pattern of five. -/
theorem c_40A00000 : (Ideal.ofBits .f32 0x40A00000#32 : EReal) = ((5 : ℝ) : EReal) := by
  simp [Ideal.ofBits, Ideal.ieee, -EReal.coe_mul]; norm_num
/-- The pattern of six. -/
theorem c_40C00000 : (Ideal.ofBits .f32 0x40C00000#32 : EReal) = ((6 : ℝ) : EReal) := by
  simp [Ideal.ofBits, Ideal.ieee, -EReal.coe_mul]; norm_num
/-- The pattern of minus six. -/
theorem c_C0C00000 : (Ideal.ofBits .f32 0xC0C00000#32 : EReal) = ((-6 : ℝ) : EReal) := by
  simp [Ideal.ofBits, Ideal.ieee, -EReal.coe_mul]; norm_num

/-- The code whose sign is `s` and whose magnitude counts the comparisons that hold. -/
def kBits (s b1 b2 b3 b4 b5 b6 b7 : Bool) : BitVec 32 :=
  IntOp.addi (IntOp.addi (IntOp.addi (IntOp.addi (IntOp.addi (IntOp.addi (IntOp.addi (Scalar.select (BitVec.ofBool s) 8#32 0#32)
    ((BitVec.ofBool b1).setWidth 32)) ((BitVec.ofBool b2).setWidth 32)) ((BitVec.ofBool b3).setWidth 32)) ((BitVec.ofBool b4).setWidth 32))
    ((BitVec.ofBool b5).setWidth 32)) ((BitVec.ofBool b6).setWidth 32)) ((BitVec.ofBool b7).setWidth 32)

/-- The same code, its sign kept only where the first comparison holds. -/
def rBits (s b1 b2 b3 b4 b5 b6 b7 : Bool) : BitVec 32 :=
  IntOp.addi (IntOp.addi (IntOp.addi (IntOp.addi (IntOp.addi (IntOp.addi (IntOp.addi (Scalar.select (BitVec.ofBool b1) 1#32 0#32)
    (Scalar.select (BitVec.ofBool b2) 1#32 0#32)) (Scalar.select (BitVec.ofBool b3) 1#32 0#32)) (Scalar.select (BitVec.ofBool b4) 1#32 0#32))
    (Scalar.select (BitVec.ofBool b5) 1#32 0#32)) (Scalar.select (BitVec.ofBool b6) 1#32 0#32)) (Scalar.select (BitVec.ofBool b7) 1#32 0#32))
    (Scalar.select (IntOp.andi (BitVec.ofBool s) (BitVec.ofBool b1)) 8#32 0#32)

/-- The kernel's code from its comparisons fits four bits. -/
theorem kBits_lt : ∀ s b1 b2 b3 b4 b5 b6 b7 : Bool, (kBits s b1 b2 b3 b4 b5 b6 b7).toNat < 16 := by decide +kernel

/-- The reference's code from its comparisons fits four bits. -/
theorem rBits_lt : ∀ s b1 b2 b3 b4 b5 b6 b7 : Bool, (rBits s b1 b2 b3 b4 b5 b6 b7).toNat < 16 := by decide +kernel

/-- The two codes agree from the same comparisons, once the sign of zero is cleared. -/
theorem bits_eq : ∀ s b1 b2 b3 b4 b5 b6 b7 : Bool, (b2 → b1) → (b3 → b1) → (b4 → b1) → (b5 → b1) → (b6 → b1) → (b7 → b1) →
    clr (kBits s b1 b2 b3 b4 b5 b6 b7).toNat = (rBits s b1 b2 b3 b4 b5 b6 b7).toNat := by decide +kernel

/-- The code of an element as the kernel takes it, the sign not yet cleared. -/
def kcode (v : EReal) : BitVec 32 :=
  kBits (decide (v < Ideal.ofBits .f32 0x00000000#32)) (decide (Ideal.ofBits .f32 0x3E800000#32 < max v (-v)))
    (decide (Ideal.ofBits .f32 0x3F400000#32 ≤ max v (-v))) (decide (Ideal.ofBits .f32 0x3FA00000#32 < max v (-v)))
    (decide (Ideal.ofBits .f32 0x3FE00000#32 ≤ max v (-v))) (decide (Ideal.ofBits .f32 0x40200000#32 < max v (-v)))
    (decide (Ideal.ofBits .f32 0x40600000#32 ≤ max v (-v))) (decide (Ideal.ofBits .f32 0x40A00000#32 < max v (-v)))

/-- The code of an element as the reference takes it. -/
def rcode (v : EReal) : BitVec 32 :=
  rBits (decide (v < Ideal.ofBits .f32 0x00000000#32)) (decide (Ideal.ofBits .f32 0x3E800000#32 < max v (-v)))
    (decide (Ideal.ofBits .f32 0x3F400000#32 ≤ max v (-v))) (decide (Ideal.ofBits .f32 0x3FA00000#32 < max v (-v)))
    (decide (Ideal.ofBits .f32 0x3FE00000#32 ≤ max v (-v))) (decide (Ideal.ofBits .f32 0x40200000#32 < max v (-v)))
    (decide (Ideal.ofBits .f32 0x40600000#32 ≤ max v (-v))) (decide (Ideal.ofBits .f32 0x40A00000#32 < max v (-v)))

/-- An element limited to the interval from minus six to six. -/
def clip (v : EReal) : EReal := min (Ideal.ofBits .f32 0x40C00000#32) (max (Ideal.ofBits .f32 0xC0C00000#32) v)

/-- Minus six is the negative of six. -/
theorem neg_six : -(((6 : ℝ) : EReal)) = ((-6 : ℝ) : EReal) := by rw [← EReal.coe_neg]

/-- The negative of a clipped value. -/
theorem clip_neg (v : EReal) : -(clip v) = max ((-6 : ℝ) : EReal) (min ((6 : ℝ) : EReal) (-v)) := by
  unfold clip
  rw [c_40C00000, c_C0C00000]
  rcases le_total v ((-6 : ℝ) : EReal) with h | h
  · have h' : ((6 : ℝ) : EReal) ≤ -v := by rw [← neg_neg ((6 : ℝ) : EReal), neg_six]; exact EReal.neg_le_neg_iff.mpr h
    rw [max_eq_left h, min_eq_left h', min_eq_right (by exact_mod_cast (by norm_num : (-6 : ℝ) ≤ 6)),
      max_eq_right (by exact_mod_cast (by norm_num : (-6 : ℝ) ≤ 6)), ← neg_six, neg_neg]
  · have h' : -v ≤ ((6 : ℝ) : EReal) := by rw [← neg_neg ((6 : ℝ) : EReal), neg_six]; exact EReal.neg_le_neg_iff.mpr h
    rw [max_eq_right h, min_eq_right h']
    rcases le_total v ((6 : ℝ) : EReal) with g | g
    · rw [min_eq_right g, max_eq_right]
      rw [← neg_six]; exact EReal.neg_le_neg_iff.mpr g
    · rw [min_eq_left g, neg_six, max_eq_left]
      rw [← neg_six]; exact EReal.neg_le_neg_iff.mpr g

/-- Clipping to six does not change whether the magnitude is above a threshold below six. -/
theorem lt_clip (t : ℝ) (h0 : 0 ≤ t) (h6 : t < 6) (v : EReal) : (t : EReal) < max (clip v) (-(clip v)) ↔ (t : EReal) < max v (-v) := by
  have a : (t : EReal) < ((6 : ℝ) : EReal) := by exact_mod_cast h6
  have b : ¬ (t : EReal) < ((-6 : ℝ) : EReal) := by
    rw [not_lt]; exact_mod_cast (by linarith : (-6 : ℝ) ≤ t)
  rw [clip_neg]
  unfold clip
  rw [c_40C00000, c_C0C00000]
  simp only [lt_max_iff, lt_min_iff, a, b, true_and, false_or]

/-- Clipping to six does not change whether the magnitude reaches a threshold below six. -/
theorem le_clip (t : ℝ) (h0 : 0 ≤ t) (h6 : t < 6) (v : EReal) : (t : EReal) ≤ max (clip v) (-(clip v)) ↔ (t : EReal) ≤ max v (-v) := by
  have a : (t : EReal) ≤ ((6 : ℝ) : EReal) := by exact_mod_cast h6.le
  have b : ¬ (t : EReal) ≤ ((-6 : ℝ) : EReal) := by
    rw [not_le]; exact_mod_cast (by linarith : (-6 : ℝ) < t)
  rw [clip_neg]
  unfold clip
  rw [c_40C00000, c_C0C00000]
  simp only [le_max_iff, le_min_iff, a, b, true_and, false_or]

/-- Clipping does not change the sign. -/
theorem clip_lt_zero (v : EReal) : clip v < 0 ↔ v < 0 := by
  unfold clip
  rw [c_40C00000, c_C0C00000]
  have a : ¬ ((6 : ℝ) : EReal) < 0 := by rw [not_lt]; exact_mod_cast (by norm_num : (0 : ℝ) ≤ 6)
  have b : ((-6 : ℝ) : EReal) < 0 := by exact_mod_cast (by norm_num : (-6 : ℝ) < 0)
  simp only [min_lt_iff, max_lt_iff, a, b, true_and, false_or]

/-- The kernel's code fits four bits. -/
theorem kcode_lt (v : EReal) : (kcode v).toNat < 16 := kBits_lt _ _ _ _ _ _ _ _
/-- The reference's code fits four bits. -/
theorem rcode_lt (v : EReal) : (rcode v).toNat < 16 := rBits_lt _ _ _ _ _ _ _ _

/-- Limiting the element first does not change its code. -/
theorem rcode_clip (v : EReal) : rcode (clip v) = rcode v := by
  unfold rcode
  simp only [Ideal.ofBits_zero_f32, clip_lt_zero, c_3E800000, c_3F400000, c_3FA00000, c_3FE00000, c_40200000, c_40600000, c_40A00000]
  have lt := fun (t : ℝ) h0 h6 => lt_clip t h0 h6 v
  have le := fun (t : ℝ) h0 h6 => le_clip t h0 h6 v
  simp only [lt (1 / 4) (by norm_num) (by norm_num), le (3 / 4) (by norm_num) (by norm_num), lt (5 / 4) (by norm_num) (by norm_num),
    le (7 / 4) (by norm_num) (by norm_num), lt (5 / 2) (by norm_num) (by norm_num), le (7 / 2) (by norm_num) (by norm_num),
    lt 5 (by norm_num) (by norm_num)]

/-- The kernel's code with the sign of a zero magnitude cleared is the reference's code. -/
theorem clr_kcode (v : EReal) : clr (kcode v).toNat = (rcode v).toNat := by
  unfold kcode rcode
  simp only [c_3E800000, c_3F400000, c_3FA00000, c_3FE00000, c_40200000, c_40600000, c_40A00000]
  refine bits_eq _ _ _ _ _ _ _ _ ?_ ?_ ?_ ?_ ?_ ?_
  all_goals
    simp only [decide_eq_true_eq]
    intro h
    refine lt_of_lt_of_le ?_ (by first | exact h | exact h.le)
    exact EReal.coe_lt_coe_iff.mpr (by norm_num)

end Cert.Value
-- ==== Proof.Value.Spec.lean ====
/-
  The quantisation of an array in plain terms: block maxima, the global scale, the block scales and the quotients.
-/
module

public import Mathlib.Order.CompleteLattice.Basic
public import Idealize.ShloMosaic.Lib.Pointwise
public import proofs.«01_k».proof.Proof.Value.Elem

@[expose] public section

set_option maxRecDepth 16384

noncomputable section

namespace Cert.Value

open Idealize.ShloMosaic

/-- The array: 65536 rows of 1280 elements. -/
abbrev Arr : Shape := ⟨2, ![65536, 1280]⟩

/-- The absolute value. -/
def av (v : EReal) : EReal := max v (-v)

variable (X : Arr.Idx → EReal)

/-- The element of row `p` and column `d`. -/
def xAt (p d : ℕ) : EReal := X (ix2 (Fin.ofNat 65536 p) (Fin.ofNat 1280 d))

/-- The largest absolute value of block `n` of row `p`. -/
def bm (p n : ℕ) : EReal := Finset.univ.fold max ⊥ fun e : Fin 16 => av (xAt X p (16 * n + e.val))

/-- The largest absolute value of the array. -/
def gM : EReal := ⨆ y, av (X y)

/-- The global scale. -/
def sG : EReal := if 0 < gM X then Ideal.div (gM X) (Ideal.ofBits .f32 0x45280000#32) else 1

/-- The scale of block `n` of row `p`. -/
def sB (p n : ℕ) : EReal := min (Ideal.div (bm X p n) (Ideal.ofBits .f32 0x40C00000#32 * sG X)) (Ideal.ofBits .f32 0x43E00000#32)

/-- What the elements of a block are divided by. -/
def eff (p n : ℕ) : EReal := if sB X p n * sG X = 0 then 1 else sB X p n * sG X

/-- The quotient whose code is taken. -/
def quo (p d : ℕ) : EReal := Ideal.div (xAt X p d) (eff X p (d / 16))

/-- The packed byte of row `p` at column pair `l`. -/
def byte (p l : ℕ) : ℕ := (rcode (quo X p (2 * l))).toNat + 16 * (rcode (quo X p (2 * l + 1))).toNat

/-- An absolute value is not negative. -/
theorem av_nonneg (v : EReal) : 0 ≤ av v := by
  unfold av
  rcases le_total 0 v with h | h
  · exact le_max_of_le_left h
  · exact le_max_of_le_right (EReal.neg_nonneg.mpr h)

/-- A block's maximum is at most a bound when each of its elements is. -/
theorem bm_le {p n : ℕ} {z : EReal} : bm X p n ≤ z ↔ ∀ e : Fin 16, av (xAt X p (16 * n + e.val)) ≤ z := by
  unfold bm
  rw [Finset.fold_max_le]
  simp

/-- The tensor's maximum is not negative. -/
theorem gM_nonneg : 0 ≤ gM X := (av_nonneg _).trans (le_iSup (fun y => av (X y)) (ix2 0 0))

/-- A block's maximum is at most the tensor's. -/
theorem bm_le_gM (p n : ℕ) : bm X p n ≤ gM X := (bm_le X).mpr fun e => le_iSup (fun y => av (X y)) _

/-- An element is at most its block's maximum. -/
theorem le_bm (y : Arr.Idx) : av (X y) ≤ bm X (y 0).val ((y 1).val / 16) := by
  have h0 : (y 0).val < 65536 := (y 0).isLt
  have h1 : (y 1).val < 1280 := (y 1).isLt
  have h := (bm_le X (p := (y 0).val) (n := (y 1).val / 16)).mp le_rfl ⟨(y 1).val % 16, by omega⟩
  have e : xAt X (y 0).val (16 * ((y 1).val / 16) + (y 1).val % 16) = X y := by
    unfold xAt
    refine congrArg X ?_
    funext a
    match a with
    | ⟨0, _⟩ => exact Fin.ext (Nat.mod_eq_of_lt h0)
    | ⟨1, _⟩ => exact Fin.ext (show (16 * ((y 1).val / 16) + (y 1).val % 16) % 1280 = (y 1).val by omega)
  rwa [e] at h

/-- Division by a nonzero number is multiplication by its inverse. -/
theorem div_eq {x e : EReal} (h : e ≠ 0) : Ideal.div x e = x * e⁻¹ := by rw [Ideal.div, if_neg h]

/-- The effective scale is never zero. -/
theorem eff_ne (p n : ℕ) : eff X p n ≠ 0 := by
  unfold eff
  split
  · exact one_ne_zero
  · assumption

/-- Dividing is multiplying by the reciprocal, as what is divided by is not zero. -/
theorem mul_recip (p d n : ℕ) (h : d / 16 = n) : xAt X p d * Ideal.div 1 (eff X p n) = quo X p d := by
  unfold quo
  rw [h, div_eq (eff_ne X p n), div_eq (eff_ne X p n), one_mul]

end Cert.Value
-- ==== Proof.Value.Ker.lean ====
/-
  What the kernel's payloads are at an index, in the plain terms of the quantisation.
-/
module

public import proofs.«01_k».proof.Proof.Value.Spec
public import proofs.«01_k».proof.Proof.Ideal.Codes

@[expose] public section

set_option maxRecDepth 16384

noncomputable section

namespace Cert.Value

open Idealize.ShloMosaic

open Cert.KernelIdeal Cert.KernelIdeal.Gen Cert.KernelIdeal.Hand

/-- The table of the row order in which a block's maxima are taken. -/
def IsPerm (pm : Vec Ideal S256x256 .bf16) : Prop :=
  ∀ a b : Fin 256, pm (ix2 a b) = if 16 * (a.val % 16) + a.val / 16 = b.val then (1 : EReal) else 0
/-- The identity table. -/
def IsEye (eye : Vec Ideal S256x256 .bf16) : Prop := ∀ a b : Fin 256, eye (ix2 a b) = if a.val = b.val then (1 : EReal) else 0

/-- A sum against a table's row that is one at a single place and zero elsewhere. -/
theorem pick (f w : Fin 256 → EReal) (k : Fin 256) (hw : ∀ b, w b = if k.val = b.val then 1 else 0) : ∑ b, w b * f b = f k := by
  rw [Finset.sum_eq_single k]
  · rw [hw, if_pos rfl, one_mul]
  · intro b _ hb
    rw [hw, if_neg (fun h => hb (Fin.ext h.symm)), zero_mul]
  · intro h; exact absurd (Finset.mem_univ k) h

variable (X : S65536x1280.Idx → EReal) (pm eye : Vec Ideal S256x256 .bf16)

/-- A block of the array read, element by element. -/
theorem xBlk_at (b h g : ℕ) (l k : Fin 256) :
    (xBlk (F := Ideal) X b h g (ix3 0 l k) : EReal) = xAt X (512 * b + (256 * h + l.val)) (256 * g + k.val) := rfl

/-- A group's maxima: the product with the permutation gathers a block's elements, and the maximum is taken over them. -/
theorem pay1_at (hpm : IsPerm pm) (b h g : ℕ) (r : Fin 16) (l : Fin 256) :
    (k0_pay1 (F := Ideal) (xBlk (F := Ideal) X b h g) pm (ix2 r l) : EReal) = bm X (512 * b + (256 * h + l.val)) (16 * g + r.val) := by
  pointwise [k0_pay1]
  rw [c_bot]
  unfold bm
  refine congrArg (fun f : Fin 16 → EReal => Finset.fold max (⊥ : EReal) f Finset.univ) (funext fun i => ?_)
  have e : 16 * ((i.val * 16 + r.val) % 16) + (i.val * 16 + r.val) / 16 = 16 * r.val + i.val := by omega
  refine (pick (fun k => av (xBlk (F := Ideal) X b h g (ix3 0 l k))) (fun k => pm (ix2 (⟨i.val * 16 + r.val, by omega⟩ : Fin 256) k))
    (⟨16 * r.val + i.val, by omega⟩ : Fin 256) (fun b => (hpm _ b).trans (by rw [e]))).trans ?_
  have e' : 256 * g + (16 * r.val + i.val) = 16 * (16 * g + r.val) + i.val := by omega
  exact congrArg av ((xBlk_at X b h g l _).trans (congrArg (xAt X _) e'))

/-- The two payloads of a group's maxima are the same function. -/
theorem pay211_eq (x : Vec Ideal S1x256x256 .bf16) : k0_pay211 (F := Ideal) x pm = k0_pay1 x pm := rfl

/-- The stored maxima are the computed ones. -/
theorem pay2_eq (x : Vec Ideal S1x256x256 .bf16) (r : Fin 16) (l : Fin 256) :
    (k0_pay2 (F := Ideal) x pm (ix3 0 r l) : EReal) = k0_pay1 (F := Ideal) x pm (ix2 r l) := by
  pointwise [k0_pay2]

/-- The array of maxima holds each block's maximum. -/
theorem amaxV_at (hpm : IsPerm pm) (t : Fin 128) (r : Fin 80) (l : Fin 512) :
    (amaxV (F := Ideal) X pm (ix3 t r l) : EReal) = bm X (512 * t.val + l.val) r.val := by
  show (k0_pay2 (F := Ideal) (xBlk (F := Ideal) X t.val (l.val / 256) (r.val / 16)) pm (ix3 0 (Fin.ofNat 16 r.val) (Fin.ofNat 256 l.val)) : EReal) = _
  rw [pay2_eq, pay1_at X pm hpm]
  have e0 : 512 * t.val + (256 * (l.val / 256) + (Fin.ofNat 256 l.val).val) = 512 * t.val + l.val := by
    show 512 * t.val + (256 * (l.val / 256) + l.val % 256) = _; omega
  have e1 : 16 * (r.val / 16) + (Fin.ofNat 16 r.val).val = r.val := by
    show 16 * (r.val / 16) + r.val % 16 = _; omega
  rw [e0, e1]

/-- The running maxima begin at zero. -/
theorem pay209_at (r : Fin 16) (l : Fin 256) : (k0_pay209 (F := Ideal) (ix2 r l) : EReal) = 0 := by
  pointwise [k0_pay209]

/-- A step's new running maxima: the largest of the old ones and of the tile's ten blocks' maxima. -/
theorem step_at (G : Vec Ideal S16x256 .f32) (b0 b1 b2 b3 b4 b5 b6 b7 b8 b9 : Vec Ideal S1x256x256 .bf16) (r : Fin 16) (l : Fin 256) :
    (gmaxStep (F := Ideal) pm G b0 b1 b2 b3 b4 b5 b6 b7 b8 b9 (ix2 r l) : EReal)
      = max (max (max (max (max (max (max (max (max (max (G (ix2 r l)) (k0_pay1 (F := Ideal) b0 pm (ix2 r l))) (k0_pay1 (F := Ideal) b1 pm (ix2 r l)))
        (k0_pay1 (F := Ideal) b2 pm (ix2 r l))) (k0_pay1 (F := Ideal) b3 pm (ix2 r l))) (k0_pay1 (F := Ideal) b4 pm (ix2 r l))) (k0_pay1 (F := Ideal) b5 pm (ix2 r l)))
        (k0_pay1 (F := Ideal) b6 pm (ix2 r l))) (k0_pay1 (F := Ideal) b7 pm (ix2 r l))) (k0_pay1 (F := Ideal) b8 pm (ix2 r l))) (k0_pay1 (F := Ideal) b9 pm (ix2 r l)) := by
  unfold gmaxStep k0_pay213
  rw [pay211_eq]
  pointwise

/-- The running maximum after `T` tiles is below `z` exactly when zero and those tiles' block maxima are. -/
theorem gmaxV_le (hpm : IsPerm pm) (T : ℕ) (r : Fin 16) (l : Fin 256) (z : EReal) :
    (gmaxV (F := Ideal) X pm T (ix2 r l) : EReal) ≤ z
      ↔ 0 ≤ z ∧ ∀ t < T, ∀ h < 2, ∀ g < 5, bm X (512 * t + (256 * h + l.val)) (16 * g + r.val) ≤ z := by
  induction T with
  | zero =>
    show (k0_pay209 (F := Ideal) (ix2 r l) : EReal) ≤ z ↔ _
    rw [pay209_at]
    simp
  | succ T ih =>
    show (gmaxStep (F := Ideal) pm _ _ _ _ _ _ _ _ _ _ _ (ix2 r l) : EReal) ≤ z ↔ _
    rw [step_at]
    simp only [pay1_at X pm hpm, max_le_iff, ih]
    constructor
    · rintro ⟨⟨⟨⟨⟨⟨⟨⟨⟨⟨⟨h0, H⟩, a0⟩, a1⟩, a2⟩, a3⟩, a4⟩, a5⟩, a6⟩, a7⟩, a8⟩, a9⟩
      refine ⟨h0, fun t ht h hh g hg => ?_⟩
      rcases Nat.lt_succ_iff_lt_or_eq.mp ht with h' | rfl
      · exact H t h' h hh g hg
      · interval_cases h <;> interval_cases g <;> assumption
    · rintro ⟨h0, H⟩
      have K := H T (Nat.lt_succ_self T)
      have L := K 0 (by omega)
      have M := K 1 (by omega)
      exact ⟨⟨⟨⟨⟨⟨⟨⟨⟨⟨⟨h0, fun t ht => H t (Nat.lt_succ_of_lt ht)⟩, L 0 (by omega)⟩, L 1 (by omega)⟩, L 2 (by omega)⟩, L 3 (by omega)⟩, L 4 (by omega)⟩,
        M 0 (by omega)⟩, M 1 (by omega)⟩, M 2 (by omega)⟩, M 3 (by omega)⟩, M 4 (by omega)⟩

/-- The maximum over the sixteen rows is the array's. -/
theorem gm_max (hpm : IsPerm pm) :
    Finset.fold max (⊥ : EReal) (fun x : Fin 16 × Fin 256 => (gm (F := Ideal) X pm (ix2 x.1 x.2) : EReal)) Finset.univ = gM X := by
  refine le_antisymm ?_ (iSup_le fun y => ?_)
  · rw [Finset.fold_max_le]
    exact ⟨bot_le, fun x _ => (gmaxV_le X pm hpm 128 x.1 x.2 _).mpr ⟨gM_nonneg X, fun t _ h _ g _ => bm_le_gM X _ _⟩⟩
  · have h0 : (y 0).val < 65536 := (y 0).isLt
    have h1 : (y 1).val < 1280 := (y 1).isLt
    refine (le_bm X y).trans ?_
    have H := ((gmaxV_le X pm hpm 128 ⟨(y 1).val % 256 / 16, by omega⟩ ⟨(y 0).val % 256, by omega⟩ _).mp le_rfl).2
      ((y 0).val / 512) (by omega) ((y 0).val % 512 / 256) (by omega) ((y 1).val / 256) (by omega)
    have e0 : 512 * ((y 0).val / 512) + (256 * ((y 0).val % 512 / 256) + (y 0).val % 256) = (y 0).val := by omega
    have e1 : 16 * ((y 1).val / 256) + (y 1).val % 256 / 16 = (y 1).val / 16 := by omega
    simp only [e0, e1] at H
    exact H.trans (Finset.le_fold_max _ |>.mpr (Or.inr ⟨(⟨(y 1).val % 256 / 16, by omega⟩, ⟨(y 0).val % 256, by omega⟩), Finset.mem_univ _, le_rfl⟩))

end Cert.Value
-- ==== Proof.Value.Ref.lean ====
/-
  What the reference's payloads are at an index, in the plain terms of the quantisation.
-/
module

public import proofs.«01_k».proof.Proof.Value.Spec
public import proofs.«01_k».proof.Proof.Gen.ReferenceIdeal.Skeleton

@[expose] public section

set_option maxRecDepth 16384

noncomputable section

namespace Cert.Value

open Idealize.ShloMosaic

open Cert.ReferenceIdeal Cert.ReferenceIdeal.Gen

/-- The reference's input is the array with its blocks apart. -/
def IsSplit (X : Arr.Idx → EReal) (v : Vec Ideal S16x4096x80x16 .bf16) : Prop :=
  ∀ (a : Fin 16) (b : Fin 4096) (c : Fin 80) (d : Fin 16), v (ix4 a b c d) = xAt X (4096 * a.val + b.val) (16 * c.val + d.val)

variable (X : Arr.Idx → EReal) (v : Vec Ideal S16x4096x80x16 .bf16)

/-- The reference's absolute values. -/
theorem rpay3_at (i : S16x4096x80x16.Idx) : (k0_pay3 (F := Ideal) v i : EReal) = av (v i) := by
  pointwise [k0_pay3, k0_pay2]
  rfl

/-- The reference's widened elements. -/
theorem rpay2_at (i : S16x4096x80x16.Idx) : (k0_pay2 (F := Ideal) v i : EReal) = v i := by
  pointwise [k0_pay2]

/-- The scale from the largest absolute value. -/
def scaleOf (u : FVec Ideal S16x4096x80x16 .f32) : FVec Ideal S1x1x1x1 .f32 :=
  have v4 : FVec Ideal S1x16x4096x80x16 .f32 := shapeCast S1x16x4096x80x16 u shapeCasts_S16x4096x80x16_S1x16x4096x80x16
  have v5 : FVec Ideal S1 .f32 := multiReduction .maximumf [1, 2, 3, 4] S1 v4 0xFF800000#32 reduces_S1x16x4096x80x16_S1 (.inl rfl) rfl
  have v6 : FVec Ideal S1x1x1x1x1 .f32 := shapeCast S1x1x1x1x1 v5 shapeCasts_S1_S1x1x1x1x1
  have v7 : Ideal .f32 := extractAt ![0, 0, 0, 0, 0] v6 inpos_S1x1x1x1x1_p0_0_0_0_0
  have v8 : FVec Ideal S1x1x1x1 .f32 := broadcast S1x1x1x1 v7
  select (cmpf .ogt v8 (broadcast S1x1x1x1 (Scalar.ofBits .f32 0x00000000#32)))
    (divf v8 (broadcast S1x1x1x1 (Scalar.ofBits .f32 0x45280000#32))) (broadcast S1x1x1x1 (Scalar.ofBits .f32 0x3F800000#32))

/-- The reference's global scale is the scale from its absolute values. -/
theorem rpay4_eq : k0_pay4 (F := Ideal) v = scaleOf (k0_pay3 v) := rfl

/-- The largest element of an array read through its five coordinates. -/
def topR (u : FVec Ideal S16x4096x80x16 .f32) : EReal :=
  Finset.fold max (⊥ : EReal) (fun x : S1x16x4096x80x16.Idx => (u (ix4 (x 1) (x 2) (x 3) (x 4)) : EReal))
    {i | reduces_S1x16x4096x80x16_S1.drop i = ix1 0}

/-- The scale from the largest element. -/
theorem scaleOf_at (u : FVec Ideal S16x4096x80x16 .f32) (a b c d : Fin 1) :
    (scaleOf u (ix4 a b c d) : EReal) = if 0 < topR u then Ideal.div (topR u) (Ideal.ofBits .f32 0x45280000#32) else 1 := by
  pointwise [scaleOf]
  rw [c_bot]
  rfl

/-- A full reduction has one place. -/
theorem drop_eq (i : S1x16x4096x80x16.Idx) : reduces_S1x16x4096x80x16_S1.drop i = ix1 0 := by
  rw [eq_ix1 (reduces_S1x16x4096x80x16_S1.drop i)]
  exact congrArg ix1 (Subsingleton.elim (α := Fin 1) _ _)

/-- The largest of the reference's absolute values is the tensor's maximum. -/
theorem topR_eq (u : FVec Ideal S16x4096x80x16 .f32) (hu : ∀ (a : Fin 16) (b : Fin 4096) (c : Fin 80) (d : Fin 16),
    (u (ix4 a b c d) : EReal) = av (xAt X (4096 * a.val + b.val) (16 * c.val + d.val))) : topR u = gM X := by
  unfold topR
  refine le_antisymm ?_ (iSup_le fun y => ?_)
  · rw [Finset.fold_max_le]
    refine ⟨bot_le, fun x _ => ?_⟩
    refine (hu (x 1) (x 2) (x 3) (x 4)).trans_le ?_
    exact le_iSup (fun y => av (X y)) _
  · have h0 : (y 0).val < 65536 := (y 0).isLt
    have h1 : (y 1).val < 1280 := (y 1).isLt
    rw [Finset.le_fold_max]
    refine Or.inr ⟨ix5 (0 : Fin 1) (⟨(y 0).val / 4096, by omega⟩ : Fin 16) (⟨(y 0).val % 4096, by omega⟩ : Fin 4096)
      (⟨(y 1).val / 16, by omega⟩ : Fin 80) (⟨(y 1).val % 16, by omega⟩ : Fin 16), Finset.mem_filter.mpr ⟨Finset.mem_univ _, drop_eq _⟩, ?_⟩
    refine le_of_eq (Eq.trans ?_ (hu _ _ _ _).symm)
    refine congrArg (fun z => av (X z)) ?_
    funext a
    match a with
    | ⟨0, _⟩ => exact Fin.ext (show (y 0).val = (4096 * ((y 0).val / 4096) + (y 0).val % 4096) % 65536 by omega)
    | ⟨1, _⟩ => exact Fin.ext (show (y 1).val = (16 * ((y 1).val / 16) + (y 1).val % 16) % 1280 by omega)

/-- The reference's global scale. -/
theorem rpay4_at (hv : IsSplit X v) (a b c d : Fin 1) : (k0_pay4 (F := Ideal) v (ix4 a b c d) : EReal) = sG X := by
  rw [rpay4_eq, scaleOf_at, topR_eq X (k0_pay3 (F := Ideal) v) (fun a b c d => (rpay3_at v _).trans (congrArg av (hv a b c d)))]
  rfl

/-- The scale as a one by one array. -/
theorem rpay5_of (u : FVec Ideal S1x1x1x1 .f32) (a b : Fin 1) :
    shapeCast S1x1 u shapeCasts_S1x1x1x1_S1x1 (ix2 a b) = u (ix4 0 0 0 0) := by
  pointwise

/-- The reference's global scale as it is stored. -/
theorem rpay5_at (hv : IsSplit X v) (a b : Fin 1) : (k0_pay5 (F := Ideal) v (ix2 a b) : EReal) = sG X :=
  (rpay5_of (k0_pay4 (F := Ideal) v) a b).trans (rpay4_at X v hv 0 0 0 0)

/-- The block scales from the absolute values and the global scale. -/
def blockScales (u : FVec Ideal S16x4096x80x16 .f32) (s : FVec Ideal S1x1x1x1 .f32) : FVec Ideal S16x4096x80x1 .fp8e4m3 :=
  have v17 : FVec Ideal S16x4096x80 .f32 := multiReduction .maximumf [3] S16x4096x80 u 0xFF800000#32 reduces_S16x4096x80x16_S16x4096x80 (.inl rfl) rfl
  have v18 : FVec Ideal S16x4096x80x1 .f32 := shapeCast S16x4096x80x1 v17 shapeCasts_S16x4096x80_S16x4096x80x1
  have v20 : FVec Ideal S1x1x1x1 .f32 := mulf (broadcast S1x1x1x1 (Scalar.ofBits .f32 0x40C00000#32)) s
  have v22 : FVec Ideal S16x4096x80x1 .f32 := divf v18 (broadcastTo S16x4096x80x1 v20 broadcasts_S1x1x1x1_S16x4096x80x1)
  truncf .fp8e4m3 (minimumf v22 (broadcast S16x4096x80x1 (Scalar.ofBits .f32 0x43E00000#32))) bitsLt_fp8e4m3_f32

/-- The reference's block scales from its absolute values and the global scale. -/
theorem rpay6_eq : k0_pay6 (F := Ideal) v = blockScales (k0_pay3 v) (k0_pay4 v) := rfl

/-- A block scale at a place. -/
theorem blockScales_at (u : FVec Ideal S16x4096x80x16 .f32) (s : FVec Ideal S1x1x1x1 .f32) (a : Fin 16) (b : Fin 4096) (c : Fin 80) :
    (blockScales u s (ix4 a b c 0) : EReal)
      = min (Ideal.div (Finset.univ.fold max (⊥ : EReal) fun e : Fin 16 => (u (ix4 a b c e) : EReal)) (Ideal.ofBits .f32 0x40C00000#32 * s (ix4 0 0 0 0)))
          (Ideal.ofBits .f32 0x43E00000#32) := by
  pointwise [blockScales]
  rw [c_bot]

/-- The reference's block scales. -/
theorem rpay6_at (hv : IsSplit X v) (a : Fin 16) (b : Fin 4096) (c : Fin 80) :
    (k0_pay6 (F := Ideal) v (ix4 a b c 0) : EReal) = sB X (4096 * a.val + b.val) c.val := by
  rw [rpay6_eq, blockScales_at, rpay4_at X v hv]
  unfold sB bm
  have e : (fun e : Fin 16 => (k0_pay3 (F := Ideal) v (ix4 a b c e) : EReal)) = fun e : Fin 16 => av (xAt X (4096 * a.val + b.val) (16 * c.val + e.val)) :=
    funext fun e => (rpay3_at v _).trans (congrArg av (hv a b c e))
  rw [e]

/-- The block scales with tokens last. -/
theorem rpay7_of (u : FVec Ideal S16x4096x80x1 .fp8e4m3) (a : Fin 16) (b : Fin 4096) (c : Fin 80) :
    transpose S16x80x4096 [0, 2, 1] (shapeCast S16x4096x80 u shapeCasts_S16x4096x80x1_S16x4096x80) transposes_S16x4096x80_p0_2_1_S16x80x4096 (ix3 a c b)
      = u (ix4 a b c 0) := by
  pointwise

/-- The reference's block scales as they are stored. -/
theorem rpay7_at (hv : IsSplit X v) (a : Fin 16) (b : Fin 4096) (c : Fin 80) :
    (k0_pay7 (F := Ideal) v (ix3 a c b) : EReal) = sB X (4096 * a.val + b.val) c.val :=
  (rpay7_of (k0_pay6 (F := Ideal) v) a b c).trans (rpay6_at X v hv a b c)

/-- The quotients from the elements, the block scales and the global scale. -/
def quotients (u : FVec Ideal S16x4096x80x16 .f32) (w : FVec Ideal S16x4096x80x1 .fp8e4m3) (s : FVec Ideal S1x1x1x1 .f32) : FVec Ideal S16x4096x80x16 .f32 :=
  have v31 : FVec Ideal S16x4096x80x1 .f32 := mulf (extf .f32 w bitsLt_fp8e4m3_f32) (broadcastTo S16x4096x80x1 s broadcasts_S1x1x1x1_S16x4096x80x1)
  have v35 : FVec Ideal S16x4096x80x1 .f32 := select (cmpf .oeq v31 (broadcast S16x4096x80x1 (Scalar.ofBits .f32 0x00000000#32)))
    (broadcast S16x4096x80x1 (Scalar.ofBits .f32 0x3F800000#32)) v31
  divf u (broadcastTo S16x4096x80x16 v35 broadcasts_S16x4096x80x1_S16x4096x80x16)

/-- The reference's quotients from its elements and scales. -/
theorem rpay8_eq : k0_pay8 (F := Ideal) v = quotients (k0_pay2 v) (k0_pay6 v) (k0_pay4 v) := rfl

/-- A quotient at a place. -/
theorem quotients_at (u : FVec Ideal S16x4096x80x16 .f32) (w : FVec Ideal S16x4096x80x1 .fp8e4m3) (s : FVec Ideal S1x1x1x1 .f32)
    (a : Fin 16) (b : Fin 4096) (c : Fin 80) (d : Fin 16) :
    (quotients u w s (ix4 a b c d) : EReal) = Ideal.div (u (ix4 a b c d))
      (if (w (ix4 a b c 0) : EReal) * (s (ix4 0 0 0 0) : EReal) = 0 then 1 else (w (ix4 a b c 0) : EReal) * (s (ix4 0 0 0 0) : EReal)) := by
  pointwise [quotients]

/-- The reference's quotients. -/
theorem rpay8_at (hv : IsSplit X v) (a : Fin 16) (b : Fin 4096) (c : Fin 80) (d : Fin 16) :
    (k0_pay8 (F := Ideal) v (ix4 a b c d) : EReal) = quo X (4096 * a.val + b.val) (16 * c.val + d.val) := by
  rw [rpay8_eq, quotients_at, rpay4_at X v hv, rpay6_at X v hv, rpay2_at]
  unfold quo eff
  rw [hv, show (16 * c.val + d.val) / 16 = c.val by omega]

/-- Two neighbouring codes packed into a byte. -/
theorem pack_of (u : IVec S16x4096x80x16 32) (a : Fin 65536) (b : Fin 640) :
    trunci 8 (addi (shapeCast S65536x640 (extractStridedSlice S65536x640x1 ![0, 0, 0] (shapeCast S65536x640x2 u shapeCasts_S16x4096x80x16_S65536x640x2) slices_S65536x640x2_o0_0_0_S65536x640x1) shapeCasts_S65536x640x1_S65536x640)
      (muli (broadcast S65536x640 16#32) (shapeCast S65536x640 (extractStridedSlice S65536x640x1 ![0, 0, 1] (shapeCast S65536x640x2 u shapeCasts_S16x4096x80x16_S65536x640x2) slices_S65536x640x2_o0_0_1_S65536x640x1) shapeCasts_S65536x640x1_S65536x640)))
      natLt_8_32 (ix2 a b)
      = (IntOp.addi (u (ix4 (⟨a.val / 4096, by omega⟩ : Fin 16) (⟨a.val % 4096, by omega⟩ : Fin 4096) (⟨b.val / 8, by omega⟩ : Fin 80) (⟨b.val % 8 * 2, by omega⟩ : Fin 16)))
          (IntOp.muli 16#32 (u (ix4 (⟨a.val / 4096, by omega⟩ : Fin 16) (⟨a.val % 4096, by omega⟩ : Fin 4096) (⟨b.val / 8, by omega⟩ : Fin 80) (⟨b.val % 8 * 2 + 1, by omega⟩ : Fin 16))))).setWidth 8 := by
  pointwise

/-- The codes of the reference, element by element. -/
def codesOf (w : FVec Ideal S16x4096x80x16 .f32) : IVec S16x4096x80x16 32 := fun i => rcode (clip (w i))

/-- The reference's packed codes from its quotients. -/
theorem rpay1_eq (w : FVec Ideal S16x4096x80x16 .f32) (c6 c7 : Ideal .f32) (h6 : c6 = Scalar.ofBits .f32 0xC0C00000#32) (h7 : c7 = Scalar.ofBits .f32 0x40C00000#32) :
    k0_pay1 (F := Ideal) (k0_pay9 w c6 c7) (k0_pay10 w c6 c7) (k0_pay11 w c6 c7) k0_pay12
      = trunci 8 (addi (shapeCast S65536x640 (extractStridedSlice S65536x640x1 ![0, 0, 0] (shapeCast S65536x640x2 (codesOf w) shapeCasts_S16x4096x80x16_S65536x640x2) slices_S65536x640x2_o0_0_0_S65536x640x1) shapeCasts_S65536x640x1_S65536x640)
      (muli (broadcast S65536x640 16#32) (shapeCast S65536x640 (extractStridedSlice S65536x640x1 ![0, 0, 1] (shapeCast S65536x640x2 (codesOf w) shapeCasts_S16x4096x80x16_S65536x640x2) slices_S65536x640x2_o0_0_1_S65536x640x1) shapeCasts_S65536x640x1_S65536x640)))
      natLt_8_32 := by
  subst h6 h7
  rfl

/-- Two codes of four bits in one byte. -/
theorem byte_of (c d : BitVec 32) (hc : c.toNat < 16) (hd : d.toNat < 16) :
    ((IntOp.addi c (IntOp.muli 16#32 d)).setWidth 8).toNat = c.toNat + 16 * d.toNat := by
  show ((c + 16#32 * d).setWidth 8).toNat = _
  rw [BitVec.toNat_setWidth, BitVec.toNat_add, BitVec.toNat_mul, show (16#32 : BitVec 32).toNat = 16 from rfl]
  omega

/-- The reference's packed codes. -/
theorem rpay1_at (hv : IsSplit X v) (a : Fin 65536) (b : Fin 640) :
    (k0_pay1 (F := Ideal) (k0_pay9 (k0_pay8 v) (Scalar.ofBits .f32 0xC0C00000#32) (Scalar.ofBits .f32 0x40C00000#32))
      (k0_pay10 (k0_pay8 v) (Scalar.ofBits .f32 0xC0C00000#32) (Scalar.ofBits .f32 0x40C00000#32))
      (k0_pay11 (k0_pay8 v) (Scalar.ofBits .f32 0xC0C00000#32) (Scalar.ofBits .f32 0x40C00000#32)) k0_pay12 (ix2 a b) : BitVec 8).toNat
      = byte X a.val b.val := by
  rw [rpay1_eq (k0_pay8 (F := Ideal) v) _ _ rfl rfl, pack_of]
  refine (byte_of _ _ (rcode_lt _) (rcode_lt _)).trans ?_
  unfold byte
  rw [rcode_clip, rcode_clip, rpay8_at X v hv, rpay8_at X v hv]
  show (rcode (quo X (4096 * (a.val / 4096) + a.val % 4096) (16 * (b.val / 8) + b.val % 8 * 2))).toNat
    + 16 * (rcode (quo X (4096 * (a.val / 4096) + a.val % 4096) (16 * (b.val / 8) + (b.val % 8 * 2 + 1)))).toNat = _
  rw [show 4096 * (a.val / 4096) + a.val % 4096 = a.val by omega, show 16 * (b.val / 8) + b.val % 8 * 2 = 2 * b.val by omega,
    show 16 * (b.val / 8) + (b.val % 8 * 2 + 1) = 2 * b.val + 1 by omega]

end Cert.Value
-- ==== Proof.Value.RefRun.lean ====
/-
  What the reference's arrays hold after its run, in the plain terms of the quantisation.
-/
module

public import proofs.«01_k».proof.Proof.Value.Ref
public import proofs.«01_k».proof.Proof.Value.Spec
public import proofs.«01_k».proof.Proof.Gen.ReferenceIdeal.Value
public import Idealize.ShloMosaic.Lib.Pipeline.ValueKit

@[expose] public section

set_option maxRecDepth 16384

noncomputable section

namespace Cert.Value

open Idealize.ShloMosaic

open Cert.ReferenceIdeal Cert.ReferenceIdeal.Gen Idealize.ShloMosaic.TcCoe

/-- An array in rows of 1280. -/
def rows (A : S16x4096x1280.Idx → EReal) : Arr.Idx → EReal := fun y =>
  A (ix3 (⟨(y 0).val / 4096, by have := (y 0).isLt; show _ < 16; have : (y 0).val < 65536 := this; omega⟩ : Fin 16) (⟨(y 0).val % 4096, Nat.mod_lt _ (by norm_num)⟩ : Fin 4096) (y 1))

variable (m : (ℓ : Loc nD τ sig) → Buf (Elt Ideal) ℓ) (c : Dev nD)

/-- The reference's argument. -/
abbrev rArg : S16x4096x1280.Idx → EReal := m ((c : Thread nD τ).loc main_arg0)

/-- The argument with its blocks apart, in terms of its rows. -/
theorem split_of (A : Vec Ideal S16x4096x1280 .bf16) :
    IsSplit (rows A) (shapeCast S16x4096x80x16 A shapeCasts_S16x4096x1280_S16x4096x80x16) := by
  intro a b c d
  have e : shapeCast S16x4096x80x16 A shapeCasts_S16x4096x1280_S16x4096x80x16 (ix4 a b c d) = A (ix3 a b (⟨16 * c.val + d.val, by omega⟩ : Fin 1280)) := by
    pointwise
    exact congrArg (fun k : Fin 1280 => A (ix3 a b k)) (Fin.ext (by show c.val * 16 + d.val = 16 * c.val + d.val; omega))
  refine e.trans ?_
  unfold xAt rows
  refine congrArg A ?_
  funext k
  match k with
  | ⟨0, _⟩ => exact Fin.ext (show a.val = ((4096 * a.val + b.val) % 65536) / 4096 by omega)
  | ⟨1, _⟩ => exact Fin.ext (show b.val = ((4096 * a.val + b.val) % 65536) % 4096 by omega)
  | ⟨2, _⟩ => exact Fin.ext (show 16 * c.val + d.val = (16 * c.val + d.val) % 1280 by omega)

/-- The array the reference's body reads. -/
theorem entry_eq : V m c main_v0 = shapeCast S16x4096x80x16 (m ((c : Thread nD τ).loc main_arg0)) shapeCasts_S16x4096x1280_S16x4096x80x16 := rfl

/-- The reference's one block begins at the origin. -/
theorem hidx (t : Fin cfg0.N) : win0_0.index t = ![0, 0, 0, 0] := by
  obtain rfl : t = t0_0 := fin_N0 t
  decide +kernel

/-- The reference's one block is the whole array. -/
theorem iblk_eq (t : Fin cfg0.N) : iblk m c 0 t = V m c main_v0 := by
  funext y
  blk_simp [iblk]
  refine congrArg (V m c main_v0) ?_
  funext k
  refine Fin.ext ?_
  match k with
  | ⟨0, _⟩ => blk_simp [hidx t]
  | ⟨1, _⟩ => blk_simp [hidx t]
  | ⟨2, _⟩ => blk_simp [hidx t]
  | ⟨3, _⟩ => blk_simp [hidx t]

/-- The packed array after the run is what the body stored. -/
theorem arr1_eq : (dats m 0 c).arrAt 1 cfg0.N = out0_1 (V m c main_v0) := by
  refine (dats m 0 c).arrAt_eq_of_after_last 1 t0_0 (by decide +kernel) _ fun j => ?_
  blk_simp
  rw [after0_1, iblk_eq]

/-- The array of block scales after the run is what the body stored. -/
theorem arr2_eq : (dats m 0 c).arrAt 2 cfg0.N = out0_2 (V m c main_v0) := by
  refine (dats m 0 c).arrAt_eq_of_after_last 2 t0_0 (by decide +kernel) _ fun j => ?_
  blk_simp
  rw [after0_2, iblk_eq]

/-- The array of the global scale after the run is what the body stored. -/
theorem arr3_eq : (dats m 0 c).arrAt 3 cfg0.N = out0_3 (V m c main_v0) := by
  refine (dats m 0 c).arrAt_eq_of_after_last 3 t0_0 (by decide +kernel) _ fun j => ?_
  blk_simp
  rw [after0_3, iblk_eq]

/-- Two zero offsets. -/
theorem zeros2 : (![0, 0] : Fin 2 → ℕ) = fun _ => 0 := by funext k; fin_cases k <;> rfl
/-- Three zero offsets. -/
theorem zeros3 : (![0, 0, 0] : Fin 3 → ℕ) = fun _ => 0 := by funext k; fin_cases k <;> rfl
/-- Four zero offsets. -/
theorem zeros4 : (![0, 0, 0, 0] : Fin 4 → ℕ) = fun _ => 0 := by funext k; fin_cases k <;> rfl

/-- A load of the whole block is the block. -/
theorem ld_eq (v : Vec Ideal S16x4096x80x16 .bf16) : View.ld v r0_0 = v := View.ld_unit_zero zeros4 _ v

/-- What the body stores as packed codes. -/
theorem out1_eq (v : Vec Ideal S16x4096x80x16 .bf16) :
    out0_1 v = k0_pay1 (k0_pay9 (k0_pay8 v) (Scalar.ofBits .f32 0xC0C00000#32) (Scalar.ofBits .f32 0x40C00000#32))
      (k0_pay10 (k0_pay8 v) (Scalar.ofBits .f32 0xC0C00000#32) (Scalar.ofBits .f32 0x40C00000#32))
      (k0_pay11 (k0_pay8 v) (Scalar.ofBits .f32 0xC0C00000#32) (Scalar.ofBits .f32 0x40C00000#32)) k0_pay12 := by
  unfold out0_1 k0_pay13
  rw [ld_eq]
  exact View.canon_unit_zero zeros2 _ _

/-- What the body stores as block scales. -/
theorem out2_eq (v : Vec Ideal S16x4096x80x16 .bf16) : out0_2 v = k0_pay7 v := by
  unfold out0_2
  rw [ld_eq]
  exact View.canon_unit_zero zeros3 _ _

/-- What the body stores as the global scale. -/
theorem out3_eq (v : Vec Ideal S16x4096x80x16 .bf16) : out0_3 v = k0_pay5 v := by
  unfold out0_3
  rw [ld_eq]
  exact View.canon_unit_zero zeros2 _ _

/-- The array the reference's body reads is the argument with its blocks apart. -/
theorem entry_split : IsSplit (rows (rArg m c)) (V m c main_v0) := by
  rw [entry_eq]
  exact split_of (m ((c : Thread nD τ).loc main_arg0))

/-- The reference's packed codes after the run. -/
theorem ref_packed (y : S65536x640.Idx) : ((dats m 0 c).arrAt 1 cfg0.N y : BitVec 8).toNat = byte (rows (rArg m c)) (y 0).val (y 1).val := by
  rw [arr1_eq, out1_eq, eq_ix2 y]
  exact rpay1_at (rows (rArg m c)) (V m c main_v0) (entry_split m c) (y 0) (y 1)

/-- The reference's block scales after the run. -/
theorem ref_scales (y : S16x80x4096.Idx) : ((dats m 0 c).arrAt 2 cfg0.N y : EReal) = sB (rows (rArg m c)) (4096 * (y 0).val + (y 2).val) (y 1).val := by
  rw [arr2_eq, out2_eq, eq_ix3 y]
  exact rpay7_at (rows (rArg m c)) (V m c main_v0) (entry_split m c) (y 0) (y 2) (y 1)

/-- The reference's global scale after the run. -/
theorem ref_global (y : S1x1.Idx) : ((dats m 0 c).arrAt 3 cfg0.N y : EReal) = sG (rows (rArg m c)) := by
  rw [arr3_eq, out3_eq, eq_ix2 y]
  exact rpay5_at (rows (rArg m c)) (V m c main_v0) (entry_split m c) (y 0) (y 1)

end Cert.Value
-- ==== Proof.Value.Tables.lean ====
/-
  What the program makes before the kernel's call: the rows of the argument, the permutation and the identity.
-/
module

public import proofs.«01_k».proof.Proof.Value.Ker
public import proofs.«01_k».proof.Proof.Value.RefRun
public import proofs.«01_k».proof.Proof.Ideal.Launch
public import Idealize.ShloMosaic.Lib.Pipeline.ValueKit
public import Idealize.ShloMosaic.Lib.StableHlo.ReadAt

@[expose] public section

set_option maxRecDepth 16384

noncomputable section

namespace Cert.Value

open Idealize.ShloMosaic

open Cert.KernelIdeal Cert.KernelIdeal.Gen Cert.KernelIdeal.Hand Idealize.ShloMosaic.TcCoe

variable (m : (ℓ : Loc nD τ sig) → Buf (Elt Ideal) ℓ) (c : Dev nD)

/-- The kernel's argument. -/
abbrev kArg : S16x4096x1280.Idx → EReal := m ((c : Thread nD τ).loc main_arg0)

/-- The kernel's body reads the argument in rows of 1280. -/
theorem XA_eq : (XA (F := Ideal) m c : Arr.Idx → EReal) = rows (kArg m c) := by
  funext y
  rw [eq_ix2 y]
  unfold XA V
  after_reads_at
  rfl

/-- The row number with its two digits exchanged, as a word. -/
theorem perm_word : ∀ a : Fin 256, IntOp.addi (IntOp.muli (16#32) (IntOp.andi (BitVec.ofNat 32 a.val) 15#32)) (IntOp.shrsi ArithUnit.host (BitVec.ofNat 32 a.val) 4#32)
    = BitVec.ofNat 32 (16 * (a.val % 16) + a.val / 16) := by decide +kernel

/-- The bit of an equality of two numbers, as a real number. -/
theorem bit_real (p q : ℕ) (hp : p < 2 ^ 32) (hq : q < 2 ^ 32) :
    (FloatOps.uitofp (F := Ideal) FTy.bf16 (IntOp.cmpi CmpIPredicate.eq (BitVec.ofNat 32 p) (BitVec.ofNat 32 q)) : EReal) = if p = q then 1 else 0 := by
  show (((IntOp.cmpi CmpIPredicate.eq (BitVec.ofNat 32 p) (BitVec.ofNat 32 q)).toNat : ℝ) : EReal) = _
  by_cases h : p = q
  · subst h
    rw [if_pos rfl, show IntOp.cmpi CmpIPredicate.eq (BitVec.ofNat 32 p) (BitVec.ofNat 32 p) = 1#1 by simp [IntOp.cmpi]]
    norm_num
  · have hne : BitVec.ofNat 32 p ≠ BitVec.ofNat 32 q := fun e => h (by
      have := congrArg BitVec.toNat e
      rwa [BitVec.toNat_ofNat, BitVec.toNat_ofNat, Nat.mod_eq_of_lt hp, Nat.mod_eq_of_lt hq] at this)
    rw [if_neg h, show IntOp.cmpi CmpIPredicate.eq (BitVec.ofNat 32 p) (BitVec.ofNat 32 q) = 0#1 from congrArg BitVec.ofBool (beq_eq_false_iff_ne.mpr hne)]
    norm_num

/-- The permutation table, element by element. -/
theorem v11_at (a b : Fin 256) : ((V m c main_v11 : Vec Ideal S256x256 .bf16) (ix2 a b) : EReal) = if 16 * (a.val % 16) + a.val / 16 = b.val then (1 : EReal) else 0 := by
  unfold V
  after_reads_at
  rw [perm_word a]
  exact bit_real _ _ (by have := a.isLt; omega) (by have := b.isLt; omega)

/-- The identity table, element by element. -/
theorem v15_at (a b : Fin 256) : ((V m c main_v15 : Vec Ideal S256x256 .bf16) (ix2 a b) : EReal) = if a.val = b.val then (1 : EReal) else 0 := by
  unfold V
  after_reads_at
  exact bit_real _ _ (by have := a.isLt; omega) (by have := b.isLt; omega)

/-- The permutation's block begins at the origin. -/
theorem hidx0 (t : Fin cfg0.N) : win0_0.index t = ![0, 0] := by
  obtain rfl : t = t0_0 := fin_N0 t
  decide +kernel
/-- The identity's block begins at the origin. -/
theorem hidx1 (t : Fin cfg0.N) : win0_1.index t = ![0, 0] := by
  obtain rfl : t = t0_0 := fin_N0 t
  decide +kernel

/-- The permutation's block is the whole table. -/
theorem kblk0 (t : Fin cfg0.N) : iblk m c 0 t = V m c main_v11 := by
  funext y
  blk_simp [iblk]
  refine congrArg (V m c main_v11) ?_
  funext k
  refine Fin.ext ?_
  match k with
  | ⟨0, _⟩ => blk_simp [hidx0 t]
  | ⟨1, _⟩ => blk_simp [hidx0 t]

/-- The identity's block is the whole table. -/
theorem kblk1 (t : Fin cfg0.N) : iblk m c 1 t = V m c main_v15 := by
  funext y
  blk_simp [iblk]
  refine congrArg (V m c main_v15) ?_
  funext k
  refine Fin.ext ?_
  match k with
  | ⟨0, _⟩ => blk_simp [hidx1 t]
  | ⟨1, _⟩ => blk_simp [hidx1 t]

/-- A table loaded from a buffer that holds it is the table. -/
theorem tbl_rep (w : Memref sig .tc .vmem S256x256 .bf16) (x : Vec Ideal S256x256 .bf16) : tbl c w (w.view.rep x) = x := by
  unfold tbl
  rw [View.readAt_eq_ld, View.read_rep]
  exact View.ld_unit_zero zeros2 _ x

/-- The first table the body loads is the permutation. -/
theorem pmT_perm : IsPerm (pmT (F := Ideal) m c t0_0) := by
  intro a b
  unfold pmT
  rw [kblk0]
  refine Eq.trans (congrFun (tbl_rep c (w0 t0_0) (V m c main_v11)) (ix2 a b)) (v11_at m c a b)

/-- The second table the body loads is the identity. -/
theorem eyeT_eye : IsEye (eyeT (F := Ideal) m c t0_0) := by
  intro a b
  unfold eyeT
  rw [kblk1]
  refine Eq.trans (congrFun (tbl_rep c (w1 t0_0) (V m c main_v15)) (ix2 a b)) (v15_at m c a b)

end Cert.Value
-- ==== Proof.Value.Scales.lean ====
/-
  The kernel's scales and the reciprocals of its effective scales, in the plain terms of the quantisation.
-/
module

public import proofs.«01_k».proof.Proof.Value.Ker

@[expose] public section

set_option maxRecDepth 16384

noncomputable section

namespace Cert.Value

open Idealize.ShloMosaic

open Cert.KernelIdeal Cert.KernelIdeal.Gen Cert.KernelIdeal.Hand
variable (X : S65536x1280.Idx → EReal) (pm eye : Vec Ideal S256x256 .bf16)
/-- The global scale from the maximum. -/
def sOf (g : EReal) : EReal := if 0 < g then Ideal.div g (Ideal.ofBits .f32 0x45280000#32) else 1

/-- The global scale is the scale from the tensor's maximum. -/
theorem sG_eq : sG X = sOf (gM X) := rfl

/-- The largest element of sixteen rows. -/
def top (G : Vec Ideal S16x256 .f32) : EReal := Finset.fold max (⊥ : EReal) (fun x : Fin 16 × Fin 256 => (G (ix2 x.1 x.2) : EReal)) Finset.univ

/-- The stored global scale from the running maxima. -/
theorem pay215_of (G : Vec Ideal S16x256 .f32) : (k0_pay215 (F := Ideal) G : EReal) = sOf (top G) := by
  pointwise [k0_pay215, k0_pay214]
  rw [c_bot]
  rfl

/-- The global scale spread over a tile. -/
theorem pay216_of (G : Vec Ideal S16x256 .f32) (r : Fin 80) (l : Fin 512) : (k0_pay216 (F := Ideal) G (ix2 r l) : EReal) = sOf (top G) := by
  pointwise [k0_pay216, k0_pay214]
  rw [c_bot]
  rfl

/-- Six times the global scale spread over a tile. -/
theorem pay217_of (G : Vec Ideal S16x256 .f32) (r : Fin 80) (l : Fin 512) :
    (k0_pay217 (F := Ideal) G (ix2 r l) : EReal) = Ideal.ofBits .f32 0x40C00000#32 * sOf (top G) := by
  rw [← pay216_of G r l]
  rfl

/-- The scale from the kernel's running maxima is the global scale. -/
theorem top_gm (hpm : IsPerm pm) : sOf (top (gm (F := Ideal) X pm)) = sG X := congrArg sOf (gm_max X pm hpm)

/-- The kernel's stored global scale. -/
theorem pay215_at (hpm : IsPerm pm) : (k0_pay215 (F := Ideal) (gm (F := Ideal) X pm) : EReal) = sG X :=
  (pay215_of _).trans (top_gm X pm hpm)

/-- The kernel's global scale spread over a tile. -/
theorem pay216_at (hpm : IsPerm pm) (r : Fin 80) (l : Fin 512) : (k0_pay216 (F := Ideal) (gm (F := Ideal) X pm) (ix2 r l) : EReal) = sG X :=
  (pay216_of _ r l).trans (top_gm X pm hpm)

/-- Six times the global scale, as the kernel divides by it. -/
theorem pay217_at (hpm : IsPerm pm) (r : Fin 80) (l : Fin 512) :
    (k0_pay217 (F := Ideal) (gm (F := Ideal) X pm) (ix2 r l) : EReal) = Ideal.ofBits .f32 0x40C00000#32 * sG X :=
  (pay217_of _ r l).trans (congrArg (Ideal.ofBits .f32 0x40C00000#32 * ·) (top_gm X pm hpm))

/-- A tile's block scales from its maxima. -/
theorem pay27_of (z : FVec Ideal S80x512 .f32) (w : Vec Ideal S1x80x512 .bf16) (r : Fin 80) (l : Fin 512) :
    (k0_pay27 (F := Ideal) z w (ix3 0 r l) : EReal) = min (Ideal.div (w (ix3 0 r l)) (z (ix2 r l))) (Ideal.ofBits .f32 0x43E00000#32) := by
  pointwise [k0_pay27, k0_pay26]

/-- A tile's reciprocals from its block scales. -/
theorem pay29_of (u z : FVec Ideal S80x512 .f32) (w : Vec Ideal S1x80x512 .bf16) (r : Fin 80) (l : Fin 512) :
    (k0_pay29 (F := Ideal) (k0_pay28 u z w) (ix2 r l) : EReal)
      = Ideal.div 1 (if min (Ideal.div (w (ix3 0 r l)) (z (ix2 r l))) (Ideal.ofBits .f32 0x43E00000#32) * u (ix2 r l) = 0 then 1
          else min (Ideal.div (w (ix3 0 r l)) (z (ix2 r l))) (Ideal.ofBits .f32 0x43E00000#32) * u (ix2 r l)) := by
  pointwise [k0_pay29, k0_pay28, k0_pay26]

/-- The product with the identity transposes a block. -/
theorem pay30_of (eye : Vec Ideal S256x256 .bf16) (x : Vec Ideal S1x256x256 .bf16) (r l : Fin 256) :
    (k0_pay30 (F := Ideal) eye x (ix2 r l) : EReal) = ∑ k : Fin 256, (eye (ix2 r k) : EReal) * (x (ix3 0 l k) : EReal) := by
  pointwise [k0_pay30]

/-- A tile's row of the maxima. -/
theorem amRow_at (hpm : IsPerm pm) (t : Fin 128) (r : Fin 80) (l : Fin 512) :
    (amRow (F := Ideal) X pm t.val (ix3 0 r l) : EReal) = bm X (512 * t.val + l.val) r.val := by
  rw [← amaxV_at X pm hpm t r l]
  have e0 : Fin.ofNat 128 t.val = t := Fin.ext (Nat.mod_eq_of_lt t.isLt)
  have e1 : Fin.ofNat 80 r.val = r := Fin.ext (Nat.mod_eq_of_lt r.isLt)
  have e2 : Fin.ofNat 512 l.val = l := Fin.ext (Nat.mod_eq_of_lt l.isLt)
  show (amaxV (F := Ideal) X pm (ix3 (Fin.ofNat 128 t.val) (Fin.ofNat 80 r.val) (Fin.ofNat 512 l.val)) : EReal) = _
  rw [e0, e1, e2]

/-- Tile `t`'s scales. -/
theorem sbTile_at (hpm : IsPerm pm) (t : Fin 128) (r : Fin 80) (l : Fin 512) :
    (sbTile (F := Ideal) X pm t.val (ix2 r l) : EReal) = sB X (512 * t.val + l.val) r.val := by
  show (k0_pay27 (F := Ideal) (k0_pay217 (gm (F := Ideal) X pm)) (amRow (F := Ideal) X pm t.val) (ix3 0 r l) : EReal) = _
  rw [pay27_of, pay217_at X pm hpm, amRow_at X pm hpm]
  rfl

/-- The reciprocals of tile `t`'s effective scales. -/
theorem rbV_at (hpm : IsPerm pm) (t : Fin 128) (r : Fin 80) (l : Fin 512) :
    (rbV (F := Ideal) X pm t.val (ix2 r l) : EReal) = Ideal.div 1 (eff X (512 * t.val + l.val) r.val) := by
  show (k0_pay29 (F := Ideal) (k0_pay28 (k0_pay216 (gm (F := Ideal) X pm)) (k0_pay217 (gm (F := Ideal) X pm)) (amRow (F := Ideal) X pm t.val)) (ix2 r l) : EReal) = _
  rw [pay29_of, pay217_at X pm hpm, pay216_at X pm hpm, amRow_at X pm hpm]
  rfl

/-- A transposed block of the array read, element by element. -/
theorem pay30_at (heye : IsEye eye) (b h g : ℕ) (r l : Fin 256) :
    (k0_pay30 (F := Ideal) eye (xBlk (F := Ideal) X b h g) (ix2 r l) : EReal) = xAt X (512 * b + (256 * h + l.val)) (256 * g + r.val) := by
  rw [pay30_of]
  exact pick (fun k => xBlk (F := Ideal) X b h g (ix3 0 l k)) (fun k => eye (ix2 r k)) r (fun b => heye r b)

end Cert.Value
-- ==== Proof.Value.Codes.lean ====
/-
  The kernel's packed codes, in the plain terms of the quantisation.
-/
module

public import proofs.«01_k».proof.Proof.Value.Scales
public import proofs.«01_k».proof.Proof.Value.Words
public import proofs.«01_k».proof.Proof.Value.Elem

@[expose] public section

set_option maxRecDepth 16384

noncomputable section

namespace Cert.Value

open Idealize.ShloMosaic

open Cert.KernelIdeal Cert.KernelIdeal.Gen Cert.KernelIdeal.Hand

/-- Sixteen rows of the block from row `o` on, times a row of reciprocals. -/
def rowsBy (Y : FVec Ideal S256x256 .f32) (r : Vec Ideal S1x256 .f32) (o : ℕ) : FVec Ideal S16x256 .f32 :=
  fun i => (Y (ix2 (Fin.ofNat 256 (o + (i 0).val)) (i 1)) : EReal) * (r (ix2 0 (i 1)) : EReal)

/-- Sixteen rows of a table, each element multiplied by its column's factor. -/
theorem rowsBy_eq (Y : FVec Ideal S256x256 .f32) (r : Vec Ideal S1x256 .f32) (o : ℕ) (ho : o ≤ 240) (h : S256x256.Slices ![o, 0] S16x256) :
    mulf (extractStridedSlice S16x256 ![o, 0] Y h) (broadcastTo S16x256 (shapeCast S1x256 r shapeCasts_S1x256_S1x256) broadcasts_S1x256_S16x256)
      = rowsBy Y r o := by
  funext i
  idx_vars i
  unfold rowsBy
  pointwise
  have e : Fin.ofNat 256 (o + i0.val) = ⟨o + i0.val, by omega⟩ := Fin.ext (Nat.mod_eq_of_lt (by omega))
  rw [e]

/-- Sixteen such pieces stacked, read at a row. -/
theorem concat_at (Y : FVec Ideal S256x256 .f32) (r : Fin 16 → Vec Ideal S1x256 .f32) (xs : List ((s : Shape) × (s.Idx → EReal)))
    (hx : xs = List.ofFn fun n : Fin 16 => (⟨S16x256, rowsBy Y (r n) (16 * n.val)⟩ : (s : Shape) × (s.Idx → EReal)))
    (h : Shape.Concatenates (xs.map (·.1)) S256x256 0) (a b : Fin 256) :
    concatenate S256x256 0 xs h (ix2 a b) = (Y (ix2 a b) : EReal) * (r ⟨a.val / 16, by omega⟩ (ix2 0 b) : EReal) := by
  subst hx
  rw [concatenate_ofFn_apply (s₁ := S16x256) (t := S256x256) 0 (fun n : Fin 16 => rowsBy Y (r n) (16 * n.val)) h rfl 16 rfl (ix2 a b) ⟨a.val / 16, by omega⟩ rfl
    (ix2 (⟨a.val % 16, by omega⟩ : Fin 16) b) rfl (by
      intro c hc
      match c with
      | ⟨0, _⟩ => exact absurd rfl hc
      | ⟨1, _⟩ => rfl)]
  unfold rowsBy
  have e : (Fin.ofNat 256 (16 * (a.val / 16) + a.val % 16)) = a := Fin.ext (by show (16 * (a.val / 16) + a.val % 16) % 256 = a.val; omega)
  show (Y (ix2 (Fin.ofNat 256 (16 * (a.val / 16) + a.val % 16)) b) : EReal) * _ = _
  rw [e]
  rfl

/-- The scaled tile: each element multiplied by its block's reciprocal. -/
theorem pay47_at (Y : FVec Ideal S256x256 .f32) (r : Fin 16 → Vec Ideal S1x256 .f32)
    (v0 v1 v2 v3 v4 v5 v6 v7 v8 v9 v10 v11 v12 v13 : FVec Ideal S16x256 .f32)
    (e0 : v0 = rowsBy Y (r 0) 0) (e1 : v1 = rowsBy Y (r 1) 16) (e2 : v2 = rowsBy Y (r 2) 32) (e3 : v3 = rowsBy Y (r 3) 48)
    (e4 : v4 = rowsBy Y (r 4) 64) (e5 : v5 = rowsBy Y (r 5) 80) (e6 : v6 = rowsBy Y (r 6) 96) (e7 : v7 = rowsBy Y (r 7) 112)
    (e8 : v8 = rowsBy Y (r 8) 128) (e9 : v9 = rowsBy Y (r 9) 144) (e10 : v10 = rowsBy Y (r 10) 160) (e11 : v11 = rowsBy Y (r 11) 176)
    (e12 : v12 = rowsBy Y (r 12) 192) (e13 : v13 = rowsBy Y (r 13) 208) (a b : Fin 256) :
    k0_pay47 (F := Ideal) Y v0 v1 v2 v3 v4 v5 v6 v7 v8 v9 v10 v11 v12 v13 (k0_pay45 (r 14)) (k0_pay46 Y) (r 15) (ix2 a b)
      = kcode ((Y (ix2 a b) : EReal) * (r ⟨a.val / 16, by omega⟩ (ix2 0 b) : EReal)) := by
  have e14 : mulf (k0_pay46 (F := Ideal) Y) (k0_pay45 (F := Ideal) (r 14)) = rowsBy Y (r 14) 224 := rowsBy_eq Y (r 14) 224 (by omega) slices_S256x256_o224_0_S16x256
  have e15 : mulf (extractStridedSlice S16x256 ![240, 0] Y slices_S256x256_o240_0_S16x256)
      (broadcastTo S16x256 (shapeCast S1x256 (r 15) shapeCasts_S1x256_S1x256) broadcasts_S1x256_S16x256) = rowsBy Y (r 15) 240 := rowsBy_eq Y (r 15) 240 (by omega) slices_S256x256_o240_0_S16x256
  rw [← concat_at Y r [⟨S16x256, v0⟩, ⟨S16x256, v1⟩, ⟨S16x256, v2⟩, ⟨S16x256, v3⟩, ⟨S16x256, v4⟩, ⟨S16x256, v5⟩, ⟨S16x256, v6⟩, ⟨S16x256, v7⟩, ⟨S16x256, v8⟩, ⟨S16x256, v9⟩,
      ⟨S16x256, v10⟩, ⟨S16x256, v11⟩, ⟨S16x256, v12⟩, ⟨S16x256, v13⟩, ⟨S16x256, mulf (k0_pay46 (F := Ideal) Y) (k0_pay45 (F := Ideal) (r 14))⟩,
      ⟨S16x256, mulf (extractStridedSlice S16x256 ![240, 0] Y slices_S256x256_o240_0_S16x256)
        (broadcastTo S16x256 (shapeCast S1x256 (r 15) shapeCasts_S1x256_S1x256) broadcasts_S1x256_S16x256)⟩]
    (by rw [e0, e1, e2, e3, e4, e5, e6, e7, e8, e9, e10, e11, e12, e13, e14, e15]; rfl)
    concatenates_S16x256_S16x256_S16x256_S16x256_S16x256_S16x256_S16x256_S16x256_S16x256_S16x256_S16x256_S16x256_S16x256_S16x256_S16x256_S16x256_S256x256_d0 a b]
  rfl

/-- The packed codes of a block from its sixteen rows of reciprocals. -/
theorem codeBlk_at (eye : Vec Ideal S256x256 .bf16) (x : Vec Ideal S1x256x256 .bf16) (r : Fin 16 → Vec Ideal S1x256 .f32) (q : Fin 256) (l : Fin 128) :
    (codeBlk (F := Ideal) eye x (r 0) (r 1) (r 2) (r 3) (r 4) (r 5) (r 6) (r 7) (r 8) (r 9) (r 10) (r 11) (r 12) (r 13) (r 14) (r 15) (ix3 0 q l) : BitVec 8).toNat
      = (rcode ((k0_pay30 (F := Ideal) eye x (ix2 (⟨2 * l.val, by omega⟩ : Fin 256) q) : EReal) * (r ⟨2 * l.val / 16, by omega⟩ (ix2 0 q) : EReal))).toNat
        + 16 * (rcode ((k0_pay30 (F := Ideal) eye x (ix2 (⟨2 * l.val + 1, by omega⟩ : Fin 256) q) : EReal) * (r ⟨(2 * l.val + 1) / 16, by omega⟩ (ix2 0 q) : EReal))).toNat := by
  have K := fun a b => pay47_at (k0_pay30 (F := Ideal) eye x) r _ _ _ _ _ _ _ _ _ _ _ _ _ _
    (rowsBy_eq _ (r 0) 0 (by omega) slices_S256x256_o0_0_S16x256) (rowsBy_eq _ (r 1) 16 (by omega) slices_S256x256_o16_0_S16x256)
    (rowsBy_eq _ (r 2) 32 (by omega) slices_S256x256_o32_0_S16x256) (rowsBy_eq _ (r 3) 48 (by omega) slices_S256x256_o48_0_S16x256)
    (rowsBy_eq _ (r 4) 64 (by omega) slices_S256x256_o64_0_S16x256) (rowsBy_eq _ (r 5) 80 (by omega) slices_S256x256_o80_0_S16x256)
    (rowsBy_eq _ (r 6) 96 (by omega) slices_S256x256_o96_0_S16x256) (rowsBy_eq _ (r 7) 112 (by omega) slices_S256x256_o112_0_S16x256)
    (rowsBy_eq _ (r 8) 128 (by omega) slices_S256x256_o128_0_S16x256) (rowsBy_eq _ (r 9) 144 (by omega) slices_S256x256_o144_0_S16x256)
    (rowsBy_eq _ (r 10) 160 (by omega) slices_S256x256_o160_0_S16x256) (rowsBy_eq _ (r 11) 176 (by omega) slices_S256x256_o176_0_S16x256)
    (rowsBy_eq _ (r 12) 192 (by omega) slices_S256x256_o192_0_S16x256) (rowsBy_eq _ (r 13) 208 (by omega) slices_S256x256_o208_0_S16x256) a b
  refine (pay49_at _ (fun j => ?_) q l).trans ?_
  · rw [eq_ix2 j]
    exact lt_of_eq_of_lt (congrArg BitVec.toNat (K (j 0) (j 1))) (kcode_lt _)
  · rw [← clr_kcode, ← clr_kcode]
    exact congrArg₂ (fun u v : BitVec 32 => clr u.toNat + 16 * clr v.toNat) (K _ _) (K _ _)

variable (X : S65536x1280.Idx → EReal) (pm eye : Vec Ideal S256x256 .bf16)

/-- A half row of the reciprocals, element by element. -/
theorem rbRow_at (hpm : IsPerm pm) (t : Fin 128) (h n : ℕ) (hh : h < 2) (hn : n < 80) (q : Fin 256) :
    (rbRow (F := Ideal) (rbV (F := Ideal) X pm t.val) h n (ix2 0 q) : EReal) = Ideal.div 1 (eff X (512 * t.val + (256 * h + q.val)) n) := by
  have H := rbV_at X pm hpm t (⟨n, hn⟩ : Fin 80) (⟨256 * h + q.val, by omega⟩ : Fin 512)
  have e0 : Fin.ofNat 80 n = ⟨n, hn⟩ := Fin.ext (Nat.mod_eq_of_lt hn)
  have e1 : Fin.ofNat 512 (256 * h + q.val) = ⟨256 * h + q.val, by omega⟩ := Fin.ext (Nat.mod_eq_of_lt (by omega))
  show (rbV (F := Ideal) X pm t.val (ix2 (Fin.ofNat 80 n) (Fin.ofNat 512 (256 * h + q.val))) : EReal) = _
  rw [e0, e1]
  exact H

/-- The packed codes of a block. -/
theorem codeV_at (hpm : IsPerm pm) (heye : IsEye eye) (t : Fin 128) (h g : ℕ) (hh : h < 2) (hg : g < 5) (q : Fin 256) (l : Fin 128) :
    (codeV (F := Ideal) X pm eye t.val h g (ix3 0 q l) : BitVec 8).toNat = byte X (512 * t.val + (256 * h + q.val)) (128 * g + l.val) := by
  refine (codeBlk_at eye (xBlk (F := Ideal) X t.val h g) (fun n => rbRow (F := Ideal) (rbV (F := Ideal) X pm t.val) h (16 * g + n.val)) q l).trans ?_
  have E : ∀ a : Fin 256, (k0_pay30 (F := Ideal) eye (xBlk (F := Ideal) X t.val h g) (ix2 a q) : EReal)
      * (rbRow (F := Ideal) (rbV (F := Ideal) X pm t.val) h (16 * g + a.val / 16) (ix2 0 q) : EReal) = quo X (512 * t.val + (256 * h + q.val)) (256 * g + a.val) := by
    intro a
    rw [rbRow_at X pm hpm t h _ hh (by omega), pay30_at X eye heye]
    exact mul_recip X _ _ _ (by omega)
  unfold byte
  rw [show 2 * (128 * g + l.val) = 256 * g + 2 * l.val by omega, ← E ⟨2 * l.val, by omega⟩,
    show 256 * g + 2 * l.val + 1 = 256 * g + (2 * l.val + 1) by omega, ← E ⟨2 * l.val + 1, by omega⟩]

/-- Tile `t`'s packed codes. -/
theorem pkTile_at (hpm : IsPerm pm) (heye : IsEye eye) (t : Fin 128) (a : Fin 512) (b : Fin 640) :
    (pkTile (F := Ideal) X pm eye t.val (ix2 a b) : BitVec 8).toNat = byte X (512 * t.val + a.val) b.val := by
  refine (codeV_at X pm eye hpm heye t (a.val / 256) (b.val / 128) (by omega) (by omega) (Fin.ofNat 256 a.val) (Fin.ofNat 128 b.val)).trans ?_
  have e0 : 512 * t.val + (256 * (a.val / 256) + (Fin.ofNat 256 a.val).val) = 512 * t.val + a.val := by
    show 512 * t.val + (256 * (a.val / 256) + a.val % 256) = _; omega
  have e1 : 128 * (b.val / 128) + (Fin.ofNat 128 b.val).val = b.val := by
    show 128 * (b.val / 128) + b.val % 128 = _; omega
  rw [e0, e1]

end Cert.Value
-- ==== Proof.Value.Equal.lean ====
/-
  The kernel's arrays after its run, and that the two programs' arrays are equal.
-/
module

public import proofs.«01_k».proof.Proof.Value.Tables
public import proofs.«01_k».proof.Proof.Value.Codes
public import proofs.«01_k».proof.Proof.Value.Scales
public import proofs.«01_k».proof.Proof.Value.RefRun
public import proofs.«01_k».proof.Defs

@[expose] public section

set_option maxRecDepth 16384

noncomputable section

namespace Cert.Value

open Idealize.ShloMosaic

open Cert.KernelIdeal Cert.KernelIdeal.Gen Cert.KernelIdeal.Hand Idealize.ShloMosaic.TcCoe Idealize.SL.Sem

variable (m : (ℓ : Loc nD τ sig) → Buf (Elt Ideal) ℓ) (c : Dev nD)

/-- A tile of the packed codes, read at a place, is the array at the tile's place. -/
theorem pkT_read (b : Fin 128) (f : Buf (Elt Ideal) ((c : Thread nD τ).loc main_v16_0)) (x : Fin 512) (l : Fin 640) :
    (pkT b).view.read (Elt Ideal) f (ix2 x l) = f (ix2 (⟨512 * b.val + x.val, by omega⟩ : Fin 65536) l) := by
  show f _ = f _
  refine congrArg f ?_
  funext k
  refine Fin.ext ?_
  match k with
  | ⟨0, _⟩ => show 512 * b.val + 1 * x.val = 512 * b.val + x.val; omega
  | ⟨1, _⟩ => show 0 + 1 * l.val = l.val; omega

/-- Dropping the leading axis of a tile. -/
theorem squeeze_at {α : Type} (u : S1x80x512.Idx → α) (r : Fin 80) (l : Fin 512) : shapeCast S80x512 u shapeCasts_S1x80x512_S80x512 (ix2 r l) = u (ix3 0 r l) := by
  pointwise

/-- A tile of the block scales, read at a place, is the array at the tile's place. -/
theorem sbT_read (b : Fin 128) (f : Buf (Elt Ideal) ((c : Thread nD τ).loc main_v16_1)) (r : Fin 80) (l : Fin 512) :
    (sbT b).view.read (Elt Ideal) f (ix2 r l) = f (ix3 (⟨b.val / 8, by omega⟩ : Fin 16) r (⟨b.val % 8 * 512 + l.val, by omega⟩ : Fin 4096)) := by
  refine (congrFun (Memref.read_squeeze_slice sbM (Rect.unit (s := S16x80x4096) (sbOff b) S1x80x512.size (sbOff_inb b)) (fun _ => rfl) squeezes_S1x80x512_S80x512
    shapeCasts_S1x80x512_S80x512 f) (ix2 r l)).trans ?_
  refine (squeeze_at _ r l).trans ?_
  show f _ = f _
  refine congrArg f ?_
  funext k
  refine Fin.ext ?_
  match k with
  | ⟨0, _⟩ => show b.val / 8 + 1 * 0 = b.val / 8; omega
  | ⟨1, _⟩ => show 0 + 1 * r.val = r.val; omega
  | ⟨2, _⟩ => show b.val % 8 * 512 + 1 * l.val = b.val % 8 * 512 + l.val; omega

/-- The kernel's packed codes from its tiles. -/
theorem packed_of (X : Arr.Idx → EReal) (pm eye : Vec Ideal S256x256 .bf16) (hpm : IsPerm pm) (heye : IsEye eye)
    (f : Buf (Elt Ideal) ((c : Thread nD τ).loc main_v16_0)) (H : PkAll c X pm eye f) (y : S65536x640.Idx) :
    (f y : BitVec 8).toNat = byte X (y 0).val (y 1).val := by
  have h0 : (y 0).val < 65536 := (y 0).isLt
  have h := (pkT_read c ⟨(y 0).val / 512, by omega⟩ f ⟨(y 0).val % 512, by omega⟩ (y 1)).symm.trans (congrFun (H ⟨(y 0).val / 512, by omega⟩) (ix2 (⟨(y 0).val % 512, by omega⟩ : Fin 512) (y 1)))
  have e : (y 0 : Fin 65536) = ⟨512 * ((y 0).val / 512) + (y 0).val % 512, by omega⟩ := Fin.ext (by show (y 0).val = 512 * ((y 0).val / 512) + (y 0).val % 512; omega)
  rw [eq_ix2 y]
  refine (congrArg (fun k : Fin 65536 => (f (ix2 k (y 1)) : BitVec 8).toNat) e).trans ?_
  refine (congrArg BitVec.toNat h).trans ?_
  refine (pkTile_at X pm eye hpm heye ⟨(y 0).val / 512, by omega⟩ ⟨(y 0).val % 512, by omega⟩ (y 1)).trans ?_
  show byte X (512 * ((y 0).val / 512) + (y 0).val % 512) (y 1).val = _
  rw [show 512 * ((y 0).val / 512) + (y 0).val % 512 = (y 0).val by omega]
  rfl

/-- The kernel's block scales from its tiles. -/
theorem scales_of (X : Arr.Idx → EReal) (pm : Vec Ideal S256x256 .bf16) (hpm : IsPerm pm)
    (f : Buf (Elt Ideal) ((c : Thread nD τ).loc main_v16_1)) (H : SbAll c X pm f) (y : S16x80x4096.Idx) :
    (f y : EReal) = sB X (4096 * (y 0).val + (y 2).val) (y 1).val := by
  have h0 : (y 0).val < 16 := (y 0).isLt
  have h2 : (y 2).val < 4096 := (y 2).isLt
  have h := (sbT_read c ⟨8 * (y 0).val + (y 2).val / 512, by omega⟩ f (y 1) ⟨(y 2).val % 512, by omega⟩).symm.trans
    (congrFun (H ⟨8 * (y 0).val + (y 2).val / 512, by omega⟩) (ix2 (y 1) (⟨(y 2).val % 512, by omega⟩ : Fin 512)))
  have e : y = ix3 (⟨(8 * (y 0).val + (y 2).val / 512) / 8, by omega⟩ : Fin 16) (y 1 : Fin 80) (⟨(8 * (y 0).val + (y 2).val / 512) % 8 * 512 + (y 2).val % 512, by omega⟩ : Fin 4096) := by
    funext k
    match k with
    | ⟨0, _⟩ => exact Fin.ext (by show (y 0).val = (8 * (y 0).val + (y 2).val / 512) / 8; omega)
    | ⟨1, _⟩ => rfl
    | ⟨2, _⟩ => exact Fin.ext (by show (y 2).val = (8 * (y 0).val + (y 2).val / 512) % 8 * 512 + (y 2).val % 512; omega)
  refine (congrArg f e).trans (h.trans ?_)
  refine (sbTile_at X pm hpm ⟨8 * (y 0).val + (y 2).val / 512, by omega⟩ (y 1) ⟨(y 2).val % 512, by omega⟩).trans ?_
  show sB X (512 * (8 * (y 0).val + (y 2).val / 512) + (y 2).val % 512) (y 1).val = _
  rw [show 512 * (8 * (y 0).val + (y 2).val / 512) + (y 2).val % 512 = 4096 * (y 0).val + (y 2).val by omega]

/-- The array of the global scale after the run is what the body left in its buffer. -/
theorem final2_eq {F : FTy → Type} [FloatOps F] (m : (ℓ : Loc nD τ sig) → Buf (Elt F) ℓ) (c : Dev nD) :
    finalA m c 2 = fun _ => k0_pay215 (gm (XA m c) (pmT m c t0_0)) := by
  unfold finalA
  refine (Hand.dats m 0 c).arrAt_eq_of_after_last 2 t0_0 (by decide +kernel) _ fun j => ?_
  blk_simp
  exact congrFun (after_w2 m c t0_0) j

/-- That array holds the global scale. -/
theorem global_of (X : Arr.Idx → EReal) (pm : Vec Ideal S256x256 .bf16) (hpm : IsPerm pm) (f : S1x1.Idx → EReal) (hf : f = fun _ => k0_pay215 (F := Ideal) (gm X pm))
    (y : S1x1.Idx) : f y = sG X := by
  rw [hf]
  exact pay215_at X pm hpm

/-- The kernel's global scale after the run. -/
theorem global_at (y : S1x1.Idx) : (finalA (F := Ideal) m c 2 y : EReal) = sG (rows (kArg m c)) :=
  (global_of (XA (F := Ideal) m c) (pmT (F := Ideal) m c t0_0) (pmT_perm m c) (finalA (F := Ideal) m c 2) (final2_eq m c) y).trans (congrArg sG (XA_eq m c))

/-- From memories that agree on the argument, the kernel and the reference end with equal arrays. -/
theorem algebraic : Cert.algebraic_KernelIdeal_ReferenceIdeal := by
  intro m g m' g' _ hm
  refine ⟨fun c => (Cert.ReferenceIdeal.Gen.dats m' 0 c).arrAt 1 Cert.ReferenceIdeal.cfg0.N, fun c => (Cert.ReferenceIdeal.Gen.dats m' 0 c).arrAt 2 Cert.ReferenceIdeal.cfg0.N,
    fun c => (Cert.ReferenceIdeal.Gen.dats m' 0 c).arrAt 3 Cert.ReferenceIdeal.cfg0.N, ?_, Cert.ReferenceIdeal.Value.run_blocks m' g'⟩
  refine (θ_run _ _ _).mono (fun r h c => ?_) (run_main (F := Ideal) m g)
  obtain ⟨hw, ha, hp, hs⟩ := h.1 c
  have hX : rows (rArg m' c) = rows (kArg m c) := congrArg rows (hm c)
  refine ⟨?_, ?_, ?_, ha⟩
  · funext y
    refine BitVec.eq_of_toNat_eq ((packed_of c (XA m c) _ _ (pmT_perm m c) (eyeT_eye m c) _ hp y).trans ?_)
    refine Eq.trans ?_ (ref_packed m' c y).symm
    rw [hX, XA_eq]
  · funext y
    refine (scales_of c (XA m c) _ (pmT_perm m c) _ hs y).trans ?_
    refine Eq.trans ?_ (ref_scales m' c y).symm
    rw [hX, XA_eq]
  · funext y
    refine (congrFun (hw 2) y).trans ((global_at m c y).trans ?_)
    refine Eq.trans ?_ (ref_global m' c y).symm
    rw [hX]

end Cert.Value
-- ==== Proof.lean ====
/-
  The claims put together.
-/
module

public import proofs.«01_k».proof.Defs
public import proofs.«01_k».proof.Proof.Gen.ReferenceIdeal.Value
public import proofs.«01_k».proof.Proof.Frames
public import proofs.«01_k».proof.Proof.Value.Equal

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Frames.kernel, Cert.Frames.kernelIdeal,
    Cert.Frames.referenceIdeal, trivial, Cert.Value.algebraic⟩

end Cert.Proof
